-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S128x1280 Cert.KernelIdeal.S64x1280

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x4096x1280 : Shape := ⟨3, ![2, 4096, 1280]⟩
abbrev S3840x3072 : Shape := ⟨2, ![3840, 3072]⟩
abbrev S3072 : Shape := ⟨1, ![3072]⟩
abbrev S_ : Shape := ⟨0, ![]⟩
abbrev S2x4096 : Shape := ⟨2, ![2, 4096]⟩

class Facts : Prop where
  bitsLt_bf16_f32 : FTy.bits .bf16 < FTy.bits .f32
  reducesTo_S2x4096x1280_S2x4096_d2 : S2x4096x1280.ReducesTo [2] S2x4096
  h_S_ : 0 < S_.numel
  bcast_S_S2x4096 : S_.BroadcastsInDim S2x4096 (![] : Fin 0 → Fin S2x4096.rank)

variable [Facts]

def fn {F : FTy → Type} [FloatOps F] (main_arg0 : FVec F S2x4096x1280 .bf16) (main_arg1 : FVec F S3840x3072 .fp8e4m3) (main_arg2 : FVec F S3072 .f32) (main_arg3 : FVec F S3072 .f32) : IVec S2x4096 1 :=
  let main_v0 : FVec F S2x4096x1280 .f32 := (extf .f32 · bitsLt_bf16_f32) main_arg0
  let main_v1 : FVec F S2x4096x1280 .f32 := Host.absf main_v0
  let main_cst : FVec F S_ .f32 := constant S_ .f32 0xFF800000#32
  let main_v2 : FVec F S2x4096 .f32 := (fun x v => Host.reduce FloatOps.maximumf x v reducesTo_S2x4096x1280_S2x4096_d2 h_S_) main_v1 main_cst
  let main_cst_0 : FVec F S_ .f32 := constant S_ .f32 0x7F7F0000#32
  let main_v3 : FVec F S2x4096 .f32 := broadcastInDim S2x4096 ![] bcast_S_S2x4096 main_cst_0
  let main_v4 : IVec S2x4096 1 := cmpf .ole main_v2 main_v3
  let main_cst_1 : FVec F S_ .f32 := constant S_ .f32 0x00000000#32
  let main_v5 : FVec F S2x4096 .f32 := broadcastInDim S2x4096 ![] bcast_S_S2x4096 main_cst_1
  let main_v6 : IVec S2x4096 1 := cmpf .oeq main_v2 main_v5
  let main_cst_2 : FVec F S_ .f32 := constant S_ .f32 0x3B124925#32
  let main_v7 : FVec F S2x4096 .f32 := broadcastInDim S2x4096 ![] bcast_S_S2x4096 main_cst_2
  let main_v8 : FVec F S2x4096 .f32 := mulf main_v2 main_v7
  let main_cst_3 : FVec F S_ .f32 := constant S_ .f32 0x00800000#32
  let main_v9 : FVec F S2x4096 .f32 := broadcastInDim S2x4096 ![] bcast_S_S2x4096 main_cst_3
  let main_v10 : IVec S2x4096 1 := cmpf .oge main_v8 main_v9
  let main_v11 : IVec S2x4096 1 := ori main_v6 main_v10
  let main_v12 : IVec S2x4096 1 := andi main_v4 main_v11
  main_v12
-- ==== Kernel.lean ====
abbrev S2x4096x1280 : Shape := ⟨3, ![2, 4096, 1280]⟩
abbrev S3840x3072 : Shape := ⟨2, ![3840, 3072]⟩
abbrev S3072 : Shape := ⟨1, ![3072]⟩
abbrev S8192x1280 : Shape := ⟨2, ![8192, 1280]⟩
abbrev S1x3072 : Shape := ⟨2, ![1, 3072]⟩
abbrev S4096x3072 : Shape := ⟨2, ![4096, 3072]⟩
abbrev S4x1x2048 : Shape := ⟨3, ![4, 1, 2048]⟩
abbrev S1024x1280 : Shape := ⟨2, ![1024, 1280]⟩
abbrev S1024x3072 : Shape := ⟨2, ![1024, 3072]⟩
abbrev S2048x1280 : Shape := ⟨2, ![2048, 1280]⟩
abbrev S1x1x2048 : Shape := ⟨3, ![1, 1, 2048]⟩
abbrev S512x3840 : Shape := ⟨2, ![512, 3840]⟩
abbrev S1x1024 : Shape := ⟨2, ![1, 1024]⟩
abbrev S8x1280 : Shape := ⟨2, ![8, 1280]⟩
abbrev S64x1280 : Shape := ⟨2, ![64, 1280]⟩
abbrev S128x128 : Shape := ⟨2, ![128, 128]⟩
abbrev S1x1280 : Shape := ⟨2, ![1, 1280]⟩
abbrev S128x1280 : Shape := ⟨2, ![128, 1280]⟩
abbrev S128 : Shape := ⟨1, ![128]⟩
abbrev S128x1 : Shape := ⟨2, ![128, 1]⟩
abbrev S128x256 : Shape := ⟨2, ![128, 256]⟩
abbrev S1x128 : Shape := ⟨2, ![1, 128]⟩
abbrev S1x1x1024 : Shape := ⟨3, ![1, 1, 1024]⟩
abbrev S3840x512 : Shape := ⟨2, ![3840, 512]⟩
abbrev S512x512 : Shape := ⟨2, ![512, 512]⟩
abbrev S1x512 : Shape := ⟨2, ![1, 512]⟩
abbrev S2x2048x3072 : Shape := ⟨3, ![2, 2048, 3072]⟩
abbrev S2x4096 : Shape := ⟨2, ![2, 4096]⟩

abbrev nBuf : Space → Nat
  | .hbm => 13
  | .vmem => 21
  | .smem => 0
  | _ => 0

abbrev bufTy : (tb : Table) → Fin (tcTables nBuf tb) → BufTy
  | .hbm, ⟨0, _⟩ => ⟨S2x4096x1280, .bf16⟩
  | .hbm, ⟨1, _⟩ => ⟨S3840x3072, .fp8e4m3⟩
  | .hbm, ⟨2, _⟩ => ⟨S3072, .f32⟩
  | .hbm, ⟨3, _⟩ => ⟨S3072, .f32⟩
  | .hbm, ⟨4, _⟩ => ⟨S8192x1280, .bf16⟩
  | .hbm, ⟨5, _⟩ => ⟨S1x3072, .f32⟩
  | .hbm, ⟨6, _⟩ => ⟨S1x3072, .f32⟩
  | .hbm, ⟨7, _⟩ => ⟨S4096x3072, .bf16⟩
  | .hbm, ⟨8, _⟩ => ⟨S8192x1280, .fp8e4m3⟩
  | .hbm, ⟨9, _⟩ => ⟨S4x1x2048, .f32⟩
  | .hbm, ⟨10, _⟩ => ⟨S2x2048x3072, .bf16⟩
  | .hbm, ⟨11, _⟩ => ⟨S2x4096x1280, .fp8e4m3⟩
  | .hbm, ⟨12, _⟩ => ⟨S2x4096, .f32⟩
  | .local _ .vmem, ⟨0, _⟩ => ⟨S1024x1280, .bf16⟩
  | .local _ .vmem, ⟨1, _⟩ => ⟨S1024x1280, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .bf16⟩
  | .local _ .vmem, ⟨5, _⟩ => ⟨S3840x3072, .fp8e4m3⟩
  | .local _ .vmem, ⟨6, _⟩ => ⟨S1x3072, .f32⟩
  | .local _ .vmem, ⟨7, _⟩ => ⟨S1x3072, .f32⟩
  | .local _ .vmem, ⟨8, _⟩ => ⟨S1024x3072, .bf16⟩
  | .local _ .vmem, ⟨9, _⟩ => ⟨S1024x3072, .bf16⟩
  | .local _ .vmem, ⟨10, _⟩ => ⟨S2048x1280, .fp8e4m3⟩
  | .local _ .vmem, ⟨11, _⟩ => ⟨S2048x1280, .fp8e4m3⟩
  | .local _ .vmem, ⟨12, _⟩ => ⟨S1x1x2048, .f32⟩
  | .local _ .vmem, ⟨13, _⟩ => ⟨S1x1x2048, .f32⟩
  | .local _ .vmem, ⟨14, _⟩ => ⟨S512x3840, .bf16⟩
  | .local _ .vmem, ⟨15, _⟩ => ⟨S512x3840, .bf16⟩
  | .local _ .vmem, ⟨16, _⟩ => ⟨S1024x1280, .fp8e4m3⟩
  | .local _ .vmem, ⟨17, _⟩ => ⟨S1024x1280, .fp8e4m3⟩
  | .local _ .vmem, ⟨18, _⟩ => ⟨S1x1024, .f32⟩
  | .local _ .vmem, ⟨19, _⟩ => ⟨S1x1024, .f32⟩
  | .local _ .vmem, ⟨20, _⟩ => ⟨S8x1280, .f32⟩
  | _, _ => ⟨S2x4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [BitOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c7_i32 : BitVec 32 := 7#32
  let v2 : BitVec 32 := Scalar.minsi v1 c7_i32
  let c0_i32 : BitVec 32 := 0#32
  let c0_i32_1 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3840x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x1280 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F]
-- ==== ReferenceIdeal.lean ====
abbrev S2x4096x1280 : Shape := ⟨3, ![2, 4096, 1280]⟩
abbrev S3840x3072 : Shape := ⟨2, ![3840, 3072]⟩
abbrev S3072 : Shape := ⟨1, ![3072]⟩
abbrev S1x3072 : Shape := ⟨2, ![1, 3072]⟩
abbrev S2x2048x3072 : Shape := ⟨3, ![2, 2048, 3072]⟩
abbrev S2x4096 : Shape := ⟨2, ![2, 4096]⟩
abbrev S2x4096x1 : Shape := ⟨3, ![2, 4096, 1]⟩
abbrev S2x2048x2560 : Shape := ⟨3, ![2, 2048, 2560]⟩
abbrev S2x2047x1280 : Shape := ⟨3, ![2, 2047, 1280]⟩
abbrev S2x1x1280 : Shape := ⟨3, ![2, 1, 1280]⟩
abbrev S2x2048x1280 : Shape := ⟨3, ![2, 2048, 1280]⟩
abbrev S2x2048x3840 : Shape := ⟨3, ![2, 2048, 3840]⟩
abbrev S1x1x3072 : Shape := ⟨3, ![1, 1, 3072]⟩

abbrev nBuf : Space → Nat
  | .hbm => 9
  | .vmem => 7
  | .smem => 0
  | _ => 0

abbrev bufTy : (tb : Table) → Fin (tcTables nBuf tb) → BufTy
  | .hbm, ⟨0, _⟩ => ⟨S2x4096x1280, .bf16⟩
  | .hbm, ⟨1, _⟩ => ⟨S3840x3072, .fp8e4m3⟩
  | .hbm, ⟨2, _⟩ => ⟨S3072, .f32⟩
  | .hbm, ⟨3, _⟩ => ⟨S3072, .f32⟩
  | .hbm, ⟨4, _⟩ => ⟨S1x3072, .f32⟩
  | .hbm, ⟨5, _⟩ => ⟨S1x3072, .f32⟩
  | .hbm, ⟨6, _⟩ => ⟨S2x2048x3072, .bf16⟩
  | .hbm, ⟨7, _⟩ => ⟨S2x4096x1280, .fp8e4m3⟩
  | .hbm, ⟨8, _⟩ => ⟨S2x4096, .f32⟩
  | .local _ .vmem, ⟨0, _⟩ => ⟨S2x4096x1280, .bf16⟩
  | .local _ .vmem, ⟨1, _⟩ => ⟨S3840x3072, .fp8e4m3⟩
  | .local _ .vmem, ⟨2, _⟩ => ⟨S1x3072, .f32⟩
  | .local _ .vmem, ⟨3, _⟩ => ⟨S1x3072, .f32⟩
  | .local _ .vmem, ⟨4, _⟩ => ⟨S2x2048x3072, .bf16⟩
  | .local _ .vmem, ⟨5, _⟩ => ⟨S2x4096x1280, .fp8e4m3⟩
  | .local _ .vmem, ⟨6, _⟩ => ⟨S2x4096, .f32⟩
  | _, _ => ⟨S2x4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S2x4096x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3840x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4096x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelBody.lean ====
/-
  The kernel's body runs to its return from any contents of its buffers, whatever the grid point: the input windows are
  left as they were, the output windows and the scratch buffers at something.
-/
module

public import proofs.«01_k».proof.Proof.Gen.Kernel.Skeleton
public import proofs.«01_k».proof.Proof.Gen.Kernel.Frame

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The contents of memref `M`'s buffer on core `c`. -/
abbrev Bf (c : Dev nD) {sp : Space} {S : Shape} {e : EltTy} (M : Memref sig .tc sp S e) : Type :=
  Buf (Elt F) (M.view.loc (c : Thread nD τ))
/-- Memref `M`'s buffer on core `c`, held whole at the contents `f`. -/
abbrev pt (c : Dev nD) {sp : Space} {S : Shape} {e : EltTy} (M : Memref sig .tc sp S e) (f : Bf (F := F) c M) : sProp (MT nD τ sig Unit (Elt F) ℕ (UR sig nD τ) ℕ) :=
  M.view.loc (c : Thread nD τ) ↦{fullShare} f

/-- A window's staging buffer, held through the memref `M` at the contents `f`. -/
abbrev wn (c : Dev nD) {sp : Space} {S : Shape} {e : EltTy} (M : Memref sig .tc sp S e) (f : Bf (F := F) c M) : sProp (MT nD τ sig Unit (Elt F) ℕ (UR sig nD τ) ℕ) :=
  M.view.loc (c : Thread nD τ) ↦[M.view.set]{fullShare} f

/-- The body at any grid point, from its sixteen buffers held whole. -/
theorem body_runs (c : Dev nD) (i : grid0.Coords)
    (M1 : Memref sig .tc .vmem S1024x1280 .bf16) (h1 : M1.IsWhole) (M2 : Memref sig .tc .vmem S1024x1280 .bf16) (h2 : M2.IsWhole) (M3 : Memref sig .tc .vmem S1024x1280 .bf16) (h3 : M3.IsWhole)
    (M4 : Memref sig .tc .vmem S3840x3072 .fp8e4m3) (h4 : M4.IsWhole) (M5 : Memref sig .tc .vmem S1x3072 .f32) (h5 : M5.IsWhole) (M6 : Memref sig .tc .vmem S1x3072 .f32) (h6 : M6.IsWhole)
    (M7 : Memref sig .tc .vmem S1024x3072 .bf16) (h7 : M7.IsWhole) (M8 : Memref sig .tc .vmem S2048x1280 .fp8e4m3) (h8 : M8.IsWhole) (M9 : Memref sig .tc .vmem S1x1x2048 .f32) (h9 : M9.IsWhole)
    (M10 : Memref sig .tc .vmem S512x3840 .bf16) (h10 : M10.IsWhole) (M11 : Memref sig .tc .vmem S512x3840 .bf16) (h11 : M11.IsWhole) (M12 : Memref sig .tc .vmem S1024x1280 .fp8e4m3) (h12 : M12.IsWhole)
    (M13 : Memref sig .tc .vmem S1024x1280 .fp8e4m3) (h13 : M13.IsWhole) (M14 : Memref sig .tc .vmem S1x1024 .f32) (h14 : M14.IsWhole) (M15 : Memref sig .tc .vmem S1x1024 .f32) (h15 : M15.IsWhole)
    (M16 : Memref sig .tc .vmem S8x1280 .f32) (h16 : M16.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16)
    (E : Set ℕ) (Q : PUnit → sProp (MT nD τ sig Unit (Elt F) ℕ (UR sig nD τ) ℕ)) :
    iprop(wn c M1 f1 ∗ wn c M2 f2 ∗ wn c M3 f3 ∗ wn c M4 f4 ∗ wn c M5 f5 ∗ wn c M6 f6 ∗ wn c M7 f7 ∗ wn c M8 f8 ∗ wn c M9 f9 ∗ pt c M10 f10 ∗ pt c M11 f11 ∗ pt c M12 f12 ∗ pt c M13 f13 ∗ pt c M14 f14 ∗ pt c M15 f15 ∗ pt c M16 f16
        ∗ (iprop(wn c M1 f1 ∗ wn c M2 f2 ∗ wn c M3 f3 ∗ wn c M4 f4 ∗ wn c M5 f5 ∗ wn c M6 f6 ∗ (∃ f, wn c M7 f) ∗ (∃ f, wn c M8 f) ∗ (∃ f, wn c M9 f) ∗ (∃ f, pt c M10 f) ∗ (∃ f, pt c M11 f) ∗ (∃ f, pt c M12 f) ∗ (∃ f, pt c M13 f) ∗ (∃ f, pt c M14 f) ∗ (∃ f, pt c M15 f) ∗ (∃ f, pt c M16 f)) -∗ Q ⟨⟩))
      ⊢ wp frame (wpE (defs₀ (F := F)) Variants.none c none) E
          (cc0_conv_gelu i M1 h1 M2 h2 M3 h3 M4 h4 M5 h5 M6 h6 M7 h7 M8 h8 M9 h9 M10 h10 M11 h11 M12 h12 M13 h13 M14 h14 M15 h15 M16 h16) Q := by
  iintro ⟨H1, H2, H3, H4, H5, H6, H7, H8, H9, H10, H11, H12, H13, H14, H15, H16, Hk⟩
  by_cases hi : Scalar.cmpi .ne (Scalar.extui (Scalar.cmpi .eq (BitVec.ofNat 32 (i 0).val) 0#32) : BitVec 32) 0#32 = 1#1
  all_goals
  · sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.Kernel.Run

end
-- ==== Proof.KernelFrame.lean ====
/-
  The frame claim of the program: every weakly fair execution terminates without fault, the arguments are as they were
  and every semaphore counter is zero at the end. The body is `Proof/KernelBody.lean`'s; of what it leaves in the results
  nothing is said here (they are forgotten).
-/
module

public import proofs.«01_k».proof.Defs
public import proofs.«01_k».proof.Proof.KernelBody

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

variable (m : (ℓ : Loc nD τ sig) → Buf (Elt F) ℓ) (ρ : Dev nD → PrngReg)

/-- The windows whose contents the frame does not name: the results'. -/
def fgt : Fin cfg0.W → Bool := fun w => decide (6 ≤ w.val)

/-- The proof data: the arrays as the region finds them, each input window's buffer left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
    | ⟨7, _⟩ => fun _ => Classical.arbitrary _
    | ⟨8, _⟩ => fun _ => Classical.arbitrary _
  Φ _ := Pipeline.ΦA spec0 c
  q w := Pipeline.shareOf spec0 w
  owed _ := 0

set_option maxHeartbeats 2000000 in
/-- The body at every grid point, the results forgotten. -/
theorem body_obligation (c : Dev nD) : BodyObligationLoose (dats m 0 c) (defs₀ (F := F)) Variants.none () Set.univ fgt := fun t => by
  rw [bigSep_W0, bigSep_W0]
  rw [show fgt 0 = false from rfl, show fgt 1 = false from rfl, show fgt 2 = false from rfl, show fgt 3 = false from rfl,
    show fgt 4 = false from rfl, show fgt 5 = false from rfl, show fgt 6 = true from rfl, show fgt 7 = true from rfl,
    show fgt 8 = true from rfl]
  dsimp only
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA owns; rw [scopedRest0_eq]
  iintro ⟨⟨⟨⟨%f10, H10⟩, ⟨%f11, H11⟩, ⟨%f12, H12⟩, ⟨%f13, H13⟩, ⟨%f14, H14⟩, ⟨%f15, H15⟩, ⟨%f16, H16⟩⟩, Hg⟩, Howes,
    ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩,
    ⟨%X7, %f7, -, H7⟩, ⟨%X8, %f8, -, H8⟩, ⟨%X9, %f9, -, H9⟩⟩
  rw [before0_0_of m (dats m 0 c) rfl (fun _ => rfl)] at hf1; rw [before0_1_of m (dats m 0 c) rfl (fun _ => rfl)] at hf2
  rw [before0_2_of m (dats m 0 c) rfl (fun _ => rfl)] at hf3; rw [before0_3_of m (dats m 0 c) rfl (fun _ => rfl)] at hf4
  rw [before0_4_of m (dats m 0 c) rfl (fun _ => rfl)] at hf5; rw [before0_5_of m (dats m 0 c) rfl (fun _ => rfl)] at hf6
  iapply (body_runs c (grid0.coords t) _ _ _ _ _ _ _ _ _ _ _ _ _ _ _ _ _ _ _ _ _ _ _ _ _ _ _ _ _ _ _ _ f1 f2 f3 f4 f5 f6 f7 f8 f9
    f10 f11 f12 f13 f14 f15 f16 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, H14, H15, H16⟩
  isplitl [H10 H11 H12 H13 H14 H15 H16 Hg]
  · isplitr [Hg]
    · isplitl [H10]; · iexact H10
      isplitl [H11]; · iexact H11
      isplitl [H12]; · iexact H12
      isplitl [H13]; · iexact H13
      isplitl [H14]; · iexact H14
      isplitl [H15]; · iexact H15
      iexact H16
    · iexact Hg
  isplitl [Howes]; · iexact Howes
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  isplitl [H7]; · icases H7 with ⟨%g, H7⟩; iexists _; iexists g; isplitr; swap; (· iexact H7); ipureintro; rfl
  isplitl [H8]; · icases H8 with ⟨%g, H8⟩; iexists _; iexists g; isplitr; swap; (· iexact H8); ipureintro; rfl
  icases H9 with ⟨%g, H9⟩; iexists _; iexists g; isplitr; swap; (· iexact H9); ipureintro; rfl

/-- The buffers the host lines after the kernel write: the results in their own shapes. -/
def T0 : Finset (Ref sig .tc) := {main_v4, main_v5, main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.reshape_writes, Finset.mem_singleton] at hb; cases Proc.devRef_injective _ hb; decide

set_option backward.isDefEq.respectTransparency.types false in
/-- The frame: the run ends, the arguments unchanged, every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.θ_run_frame_around_T_forget_shared cfgs (dats m) (0 : Fin 1) launch₀0 defs₀ Variants.none fgt T0 m ρ main
    (fun c => body_obligation m c) (fun _ _ _ => rfl) (fun _ _ => rfl) (V0 m) [hostOps1] sfx_sub sfx_fresh sfx_keeps sfx_writes
    (hmain m Variants.none) (fun _ _ => rfl) (fun _ _ => rfl)
    _ (fun r h => ⟨fun c => ⟨((h.1 c).2 main_arg0 (by decide)).trans (V_main_arg0 m c),
      (h.1.arr_in c 3 rfl).trans (V_main_arg1 m c),
      ((h.1 c).2 main_arg2 (by decide)).trans (V_main_arg2 m c),
      ((h.1 c).2 main_arg3 (by decide)).trans (V_main_arg3 m c)⟩, h.2⟩)

end Cert.Kernel.Run

end
-- ==== Proof.KernelIdealBody.lean ====
/-
  The kernel's body runs to its return from any contents of its buffers, whatever the grid point: the input windows are
  left as they were, the output windows and the scratch buffers at something.
-/
module

public import proofs.«01_k».proof.Proof.Gen.KernelIdeal.Skeleton
public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The contents of memref `M`'s buffer on core `c`. -/
abbrev Bf (c : Dev nD) {sp : Space} {S : Shape} {e : EltTy} (M : Memref sig .tc sp S e) : Type :=
  Buf (Elt F) (M.view.loc (c : Thread nD τ))
/-- Memref `M`'s buffer on core `c`, held whole at the contents `f`. -/
abbrev pt (c : Dev nD) {sp : Space} {S : Shape} {e : EltTy} (M : Memref sig .tc sp S e) (f : Bf (F := F) c M) : sProp (MT nD τ sig Unit (Elt F) ℕ (UR sig nD τ) ℕ) :=
  M.view.loc (c : Thread nD τ) ↦{fullShare} f

/-- A window's staging buffer, held through the memref `M` at the contents `f`. -/
abbrev wn (c : Dev nD) {sp : Space} {S : Shape} {e : EltTy} (M : Memref sig .tc sp S e) (f : Bf (F := F) c M) : sProp (MT nD τ sig Unit (Elt F) ℕ (UR sig nD τ) ℕ) :=
  M.view.loc (c : Thread nD τ) ↦[M.view.set]{fullShare} f

/-- The body at any grid point, from its sixteen buffers held whole. -/
theorem body_runs (c : Dev nD) (i : grid0.Coords)
    (M1 : Memref sig .tc .vmem S1024x1280 .bf16) (h1 : M1.IsWhole) (M2 : Memref sig .tc .vmem S1024x1280 .bf16) (h2 : M2.IsWhole) (M3 : Memref sig .tc .vmem S1024x1280 .bf16) (h3 : M3.IsWhole)
    (M4 : Memref sig .tc .vmem S3840x3072 .fp8e4m3) (h4 : M4.IsWhole) (M5 : Memref sig .tc .vmem S1x3072 .f32) (h5 : M5.IsWhole) (M6 : Memref sig .tc .vmem S1x3072 .f32) (h6 : M6.IsWhole)
    (M7 : Memref sig .tc .vmem S1024x3072 .bf16) (h7 : M7.IsWhole) (M8 : Memref sig .tc .vmem S2048x1280 .fp8e4m3) (h8 : M8.IsWhole) (M9 : Memref sig .tc .vmem S1x1x2048 .f32) (h9 : M9.IsWhole)
    (M10 : Memref sig .tc .vmem S512x3840 .bf16) (h10 : M10.IsWhole) (M11 : Memref sig .tc .vmem S512x3840 .bf16) (h11 : M11.IsWhole) (M12 : Memref sig .tc .vmem S1024x1280 .fp8e4m3) (h12 : M12.IsWhole)
    (M13 : Memref sig .tc .vmem S1024x1280 .fp8e4m3) (h13 : M13.IsWhole) (M14 : Memref sig .tc .vmem S1x1024 .f32) (h14 : M14.IsWhole) (M15 : Memref sig .tc .vmem S1x1024 .f32) (h15 : M15.IsWhole)
    (M16 : Memref sig .tc .vmem S8x1280 .f32) (h16 : M16.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16)
    (E : Set ℕ) (Q : PUnit → sProp (MT nD τ sig Unit (Elt F) ℕ (UR sig nD τ) ℕ)) :
    iprop(wn c M1 f1 ∗ wn c M2 f2 ∗ wn c M3 f3 ∗ wn c M4 f4 ∗ wn c M5 f5 ∗ wn c M6 f6 ∗ wn c M7 f7 ∗ wn c M8 f8 ∗ wn c M9 f9 ∗ pt c M10 f10 ∗ pt c M11 f11 ∗ pt c M12 f12 ∗ pt c M13 f13 ∗ pt c M14 f14 ∗ pt c M15 f15 ∗ pt c M16 f16
        ∗ (iprop(wn c M1 f1 ∗ wn c M2 f2 ∗ wn c M3 f3 ∗ wn c M4 f4 ∗ wn c M5 f5 ∗ wn c M6 f6 ∗ (∃ f, wn c M7 f) ∗ (∃ f, wn c M8 f) ∗ (∃ f, wn c M9 f) ∗ (∃ f, pt c M10 f) ∗ (∃ f, pt c M11 f) ∗ (∃ f, pt c M12 f) ∗ (∃ f, pt c M13 f) ∗ (∃ f, pt c M14 f) ∗ (∃ f, pt c M15 f) ∗ (∃ f, pt c M16 f)) -∗ Q ⟨⟩))
      ⊢ wp frame (wpE (defs₀ (F := F)) Variants.none c none) E
          (cc0_conv_gelu i M1 h1 M2 h2 M3 h3 M4 h4 M5 h5 M6 h6 M7 h7 M8 h8 M9 h9 M10 h10 M11 h11 M12 h12 M13 h13 M14 h14 M15 h15 M16 h16) Q := by
  iintro ⟨H1, H2, H3, H4, H5, H6, H7, H8, H9, H10, H11, H12, H13, H14, H15, H16, Hk⟩
  by_cases hi : Scalar.cmpi .ne (Scalar.extui (Scalar.cmpi .eq (BitVec.ofNat 32 (i 0).val) 0#32) : BitVec 32) 0#32 = 1#1
  all_goals
  · sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.KernelIdeal.Run

end
-- ==== Proof.KernelIdealFrame.lean ====
/-
  The frame claim of the program: every weakly fair execution terminates without fault, the arguments are as they were
  and every semaphore counter is zero at the end. The body is `Proof/KernelIdealBody.lean`'s; of what it leaves in the results
  nothing is said here (they are forgotten).
-/
module

public import proofs.«01_k».proof.Defs
public import proofs.«01_k».proof.Proof.KernelIdealBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The windows whose contents the frame does not name: the results'. -/
def fgt : Fin cfg0.W → Bool := fun w => decide (6 ≤ w.val)

/-- The proof data: the arrays as the region finds them, each input window's buffer left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
    | ⟨7, _⟩ => fun _ => Classical.arbitrary _
    | ⟨8, _⟩ => fun _ => Classical.arbitrary _
  Φ _ := Pipeline.ΦA spec0 c
  q w := Pipeline.shareOf spec0 w
  owed _ := 0

set_option maxHeartbeats 2000000 in
/-- The body at every grid point, the results forgotten. -/
theorem body_obligation (c : Dev nD) : BodyObligationLoose (dats m 0 c) (defs₀ (F := F)) Variants.none () Set.univ fgt := fun t => by
  rw [bigSep_W0, bigSep_W0]
  rw [show fgt 0 = false from rfl, show fgt 1 = false from rfl, show fgt 2 = false from rfl, show fgt 3 = false from rfl,
    show fgt 4 = false from rfl, show fgt 5 = false from rfl, show fgt 6 = true from rfl, show fgt 7 = true from rfl,
    show fgt 8 = true from rfl]
  dsimp only
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA owns; rw [scopedRest0_eq]
  iintro ⟨⟨⟨⟨%f10, H10⟩, ⟨%f11, H11⟩, ⟨%f12, H12⟩, ⟨%f13, H13⟩, ⟨%f14, H14⟩, ⟨%f15, H15⟩, ⟨%f16, H16⟩⟩, Hg⟩, Howes,
    ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩,
    ⟨%X7, %f7, -, H7⟩, ⟨%X8, %f8, -, H8⟩, ⟨%X9, %f9, -, H9⟩⟩
  rw [before0_0_of m (dats m 0 c) rfl (fun _ => rfl)] at hf1; rw [before0_1_of m (dats m 0 c) rfl (fun _ => rfl)] at hf2
  rw [before0_2_of m (dats m 0 c) rfl (fun _ => rfl)] at hf3; rw [before0_3_of m (dats m 0 c) rfl (fun _ => rfl)] at hf4
  rw [before0_4_of m (dats m 0 c) rfl (fun _ => rfl)] at hf5; rw [before0_5_of m (dats m 0 c) rfl (fun _ => rfl)] at hf6
  iapply (body_runs c (grid0.coords t) _ _ _ _ _ _ _ _ _ _ _ _ _ _ _ _ _ _ _ _ _ _ _ _ _ _ _ _ _ _ _ _ f1 f2 f3 f4 f5 f6 f7 f8 f9
    f10 f11 f12 f13 f14 f15 f16 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, H14, H15, H16⟩
  isplitl [H10 H11 H12 H13 H14 H15 H16 Hg]
  · isplitr [Hg]
    · isplitl [H10]; · iexact H10
      isplitl [H11]; · iexact H11
      isplitl [H12]; · iexact H12
      isplitl [H13]; · iexact H13
      isplitl [H14]; · iexact H14
      isplitl [H15]; · iexact H15
      iexact H16
    · iexact Hg
  isplitl [Howes]; · iexact Howes
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  isplitl [H7]; · icases H7 with ⟨%g, H7⟩; iexists _; iexists g; isplitr; swap; (· iexact H7); ipureintro; rfl
  isplitl [H8]; · icases H8 with ⟨%g, H8⟩; iexists _; iexists g; isplitr; swap; (· iexact H8); ipureintro; rfl
  icases H9 with ⟨%g, H9⟩; iexists _; iexists g; isplitr; swap; (· iexact H9); ipureintro; rfl

/-- The buffers the host lines after the kernel write: the results in their own shapes. -/
def T0 : Finset (Ref sig .tc) := {main_v4, main_v5, main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.reshape_writes, Finset.mem_singleton] at hb; cases Proc.devRef_injective _ hb; decide

set_option backward.isDefEq.respectTransparency.types false in
/-- The frame: the run ends, the arguments unchanged, every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.θ_run_frame_around_T_forget_shared cfgs (dats m) (0 : Fin 1) launch₀0 defs₀ Variants.none fgt T0 m ρ main
    (fun c => body_obligation m c) (fun _ _ _ => rfl) (fun _ _ => rfl) (V0 m) [hostOps1] sfx_sub sfx_fresh sfx_keeps sfx_writes
    (hmain m Variants.none) (fun _ _ => rfl) (fun _ _ => rfl)
    _ (fun r h => ⟨fun c => ⟨((h.1 c).2 main_arg0 (by decide)).trans (V_main_arg0 m c),
      (h.1.arr_in c 3 rfl).trans (V_main_arg1 m c),
      ((h.1 c).2 main_arg2 (by decide)).trans (V_main_arg2 m c),
      ((h.1 c).2 main_arg3 (by decide)).trans (V_main_arg3 m c)⟩, h.2⟩)

end Cert.KernelIdeal.Run

end
-- ==== Proof.Num.lean ====
/-
  The arithmetic of one frame's scale over the extended reals. The kernel finds the exponent field of `a / 448` as the
  largest `l` whose power of two `2 ^ (l - 127)` the value is not below, and makes the scale and its inverse by shifting a
  field into place; the reference takes `⌊log v / log 2⌋ + 1` and raises two to it. On the precondition's range they agree.
-/
module

public import Idealize.ShloMosaic.Lib.Pointwise

@[expose] public section

noncomputable section

namespace Cert.Num

open Idealize.ShloMosaic

/-- The reciprocal of 448 as both programs write it. -/
def K : EReal := Ideal.ofBits .f32 0x3B124925#32

/-- What the precondition says of a frame's largest magnitude. -/
def InRange (a : EReal) : Prop :=
  0 ≤ a ∧ a ≤ Ideal.ofBits .f32 0x7F7F0000#32 ∧ (a = 0 ∨ Ideal.ofBits .f32 0x00800000#32 ≤ a * K)

/-- The reference's exponent. -/
def refExp (a : EReal) : EReal :=
  if a = 0 then 0 else Ideal.liftRound Int.floor (Ideal.div (Ideal.log (a * K)) ((Real.log 2 : ℝ) : EReal)) + 1

/-- The kernel's exponent field. -/
def kerField (a : EReal) : BitVec 32 :=
  (Finset.univ : Finset (Fin 256)).fold IntOp.maxsi 2147483648#32 fun l =>
    if a * K < Ideal.ofBits .f32 (BitVec.ofNat 32 l.val <<< 23) then 0#32 else BitVec.ofNat 32 l.val

/-- The kernel's exponent. -/
def kerExp (a : EReal) : BitVec 32 := if kerField a = 0#32 then 0#32 else kerField a - 126#32

theorem fields : ∀ l : Fin 256, ((BitVec.ofNat 32 l.val <<< 23).extractLsb' 31 1 == 1#1) = false ∧
    ((BitVec.ofNat 32 l.val <<< 23).extractLsb' 23 8).toNat = l.val ∧ ((BitVec.ofNat 32 l.val <<< 23).extractLsb' 0 23).toNat = 0 := by
  decide +kernel

/-- A word whose field is `l`, its other bits zero, denotes a power of two. -/
theorem ofBits_word (b : BitVec 32) (l : ℕ) (h1 : 1 ≤ l) (h2 : l ≤ 254) (hn : (b.extractLsb' 31 1 == 1#1) = false)
    (he : (b.extractLsb' 23 8).toNat = l) (hf : (b.extractLsb' 0 23).toNat = 0) :
    Ideal.ofBits .f32 b = (((2 : ℝ) ^ ((l : ℤ) - 127) : ℝ) : EReal) := by
  show Ideal.ieee 8 23 b = _
  unfold Ideal.ieee
  simp only [Nat.reduceAdd, hn, he, hf]
  rw [if_neg (by norm_num; omega), if_neg (by omega)]
  congr 1
  have h3 : ((l : ℤ) - (2 ^ (8 - 1) - 1 : ℤ) - (23 : ℕ)) = ((l : ℤ) - 127) - 23 := by norm_num
  rw [h3, zpow_sub₀ (by norm_num : (2 : ℝ) ≠ 0)]
  norm_num
  ring

/-- A field shifted into place denotes a power of two. -/
theorem ofBits_field (l : ℕ) (h1 : 1 ≤ l) (h2 : l ≤ 254) :
    Ideal.ofBits .f32 (BitVec.ofNat 32 l <<< 23) = (((2 : ℝ) ^ ((l : ℤ) - 127) : ℝ) : EReal) := by
  obtain ⟨hn, he, hf⟩ := fields ⟨l, by omega⟩
  exact ofBits_word _ l h1 h2 hn he hf

theorem ofBits_field_top : Ideal.ofBits .f32 (BitVec.ofNat 32 255 <<< 23) = ⊤ := by
  simp [Ideal.ofBits, Ideal.ieee]

theorem ofBits_field_zero : Ideal.ofBits .f32 (BitVec.ofNat 32 0 <<< 23) = 0 := by
  simp [Ideal.ofBits, Ideal.ieee]

theorem least_eq : Ideal.ofBits .f32 0x00800000#32 = (((2 : ℝ) ^ (-126 : ℤ) : ℝ) : EReal) := by
  have h := ofBits_field 1 le_rfl (by norm_num)
  have hb : BitVec.ofNat 32 1 <<< 23 = 0x00800000#32 := by decide
  rw [hb] at h
  exact h

theorem K_eq : K = (((9586981 : ℝ) / 2 ^ 32 : ℝ) : EReal) := by
  rw [K]
  simp [Ideal.ofBits, Ideal.ieee, -EReal.coe_mul]; norm_num

theorem most_lt : Ideal.ofBits .f32 0x7F7F0000#32 ≤ (((2 : ℝ) ^ 128 : ℝ) : EReal) := by
  have h : Ideal.ofBits .f32 0x7F7F0000#32 = (((16711680 : ℝ) * 2 ^ 104 : ℝ) : EReal) := by
    simp [Ideal.ofBits, Ideal.ieee, -EReal.coe_mul]
  rw [h, EReal.coe_le_coe_iff]; norm_num

/-- In range, a frame's largest magnitude is zero, or the ratio is a real between `2 ^ -126` and `2 ^ 120`. -/
theorem InRange.cases {a : EReal} (h : InRange a) :
    a = 0 ∨ a ≠ 0 ∧ ∃ v : ℝ, a * K = (v : EReal) ∧ (2 : ℝ) ^ (-126 : ℤ) ≤ v ∧ v < (2 : ℝ) ^ (120 : ℤ) := by
  obtain ⟨h0, h1, h2⟩ := h
  by_cases ha : a = 0
  · exact .inl ha
  refine .inr ⟨ha, ?_⟩
  have hK := h2.resolve_left ha
  have h3 := h1.trans most_lt
  have hb : a ≠ ⊥ := fun h => by rw [h] at h0; exact absurd h0 (by simp)
  have ht : a ≠ ⊤ := fun h => by rw [h] at h3; exact absurd h3 (not_le.mpr (EReal.coe_lt_top _))
  lift a to ℝ using ⟨ht, hb⟩
  refine ⟨a * (9586981 / 2 ^ 32), by rw [K_eq, ← EReal.coe_mul], ?_, ?_⟩
  · rw [K_eq, ← EReal.coe_mul, least_eq, EReal.coe_le_coe_iff] at hK
    exact hK
  · rw [EReal.coe_le_coe_iff] at h3
    have : a * (9586981 / 2 ^ 32) ≤ 2 ^ 128 * (9586981 / 2 ^ 32) := mul_le_mul_of_nonneg_right h3 (by norm_num)
    refine this.trans_lt (by norm_num)

/-- The fold of the signed maximum, at a value that is among the folded and that none of them exceeds. -/
theorem fold_maxsi_eq {ι : Type*} [DecidableEq ι] (s : Finset ι) (b : BitVec 32) (f : ι → BitVec 32) (k : ι) (hk : k ∈ s)
    (hb : b.toInt ≤ (f k).toInt) (hf : ∀ l ∈ s, (f l).toInt ≤ (f k).toInt) : s.fold IntOp.maxsi b f = f k := by
  have hm : ∀ x y : BitVec 32, (IntOp.maxsi x y).toInt = max x.toInt y.toInt := fun x y => by
    unfold IntOp.maxsi
    by_cases h : y.slt x = true
    · rw [if_pos h]; rw [BitVec.slt_iff_toInt_lt] at h; omega
    · rw [if_neg h]; rw [BitVec.slt_iff_toInt_lt] at h; omega
  have hh := Finset.fold_hom (op := IntOp.maxsi) (op' := max) (s := s) (b := b) (f := f) (m := BitVec.toInt) hm
  refine BitVec.eq_of_toInt_eq (hh.symm.trans (le_antisymm ?_ ?_))
  · exact (Finset.fold_max_le _).mpr ⟨hb, hf⟩
  · exact (Finset.le_fold_max _).mpr (.inr ⟨k, hk, le_rfl⟩)

theorem toInt_field : ∀ l : Fin 256, (BitVec.ofNat 32 l.val).toInt = l.val := by decide +kernel

theorem kerField_eq {a : EReal} (k : Fin 256) (h1 : Ideal.ofBits .f32 (BitVec.ofNat 32 k.val <<< 23) ≤ a * K)
    (h2 : ∀ l : Fin 256, k.val < l.val → a * K < Ideal.ofBits .f32 (BitVec.ofNat 32 l.val <<< 23)) :
    kerField a = BitVec.ofNat 32 k.val := by
  have hk : (if a * K < Ideal.ofBits .f32 (BitVec.ofNat 32 k.val <<< 23) then 0#32 else BitVec.ofNat 32 k.val)
      = BitVec.ofNat 32 k.val := if_neg (not_lt.mpr h1)
  refine (fold_maxsi_eq _ _ _ k (Finset.mem_univ _) ?_ fun l _ => ?_).trans hk
  · rw [hk, toInt_field]; have : (2147483648#32 : BitVec 32).toInt = -2147483648 := by decide
    omega
  · rw [hk, toInt_field]
    split
    · show (0 : ℤ) ≤ _; omega
    · next h => rw [toInt_field]; by_contra hc; exact h (h2 l (by omega))

/-- The field at zero. -/
theorem kerField_zero : kerField 0 = 0#32 := by
  refine kerField_eq (a := 0) 0 ?_ fun l hl => ?_
  · show Ideal.ofBits .f32 (BitVec.ofNat 32 0 <<< 23) ≤ _
    rw [ofBits_field_zero, zero_mul]
  · rw [zero_mul]
    by_cases h : l.val = 255
    · rw [h, ofBits_field_top]; exact EReal.zero_lt_top
    · rw [ofBits_field l.val hl (by omega)]
      exact EReal.coe_pos.mpr (by positivity)

/-- The field of a ratio between two powers of two. -/
theorem kerField_pos {a : EReal} {v : ℝ} (hv : a * K = (v : EReal)) (k : ℕ) (h1 : 1 ≤ k) (h2 : k ≤ 253)
    (hl : (2 : ℝ) ^ ((k : ℤ) - 127) ≤ v) (hu : v < (2 : ℝ) ^ ((k : ℤ) - 126)) : kerField a = BitVec.ofNat 32 k := by
  refine kerField_eq ⟨k, by omega⟩ ?_ fun l hkl => ?_
  · rw [hv]; show Ideal.ofBits .f32 (BitVec.ofNat 32 k <<< 23) ≤ _
    rw [ofBits_field k h1 (by omega)]
    exact EReal.coe_le_coe_iff.mpr hl
  · rw [hv]
    replace hkl : k < l.val := hkl
    by_cases h : l.val = 255
    · rw [h, ofBits_field_top]; exact EReal.coe_lt_top v
    · rw [ofBits_field l.val (by omega) (by omega)]
      refine EReal.coe_lt_coe_iff.mpr (hu.trans_le (zpow_le_zpow_right₀ (by norm_num) (by omega)))

/-- In range, the two exponents: one integer `e`, the kernel's field being `e + 126` (or zero where `a` is). -/
theorem exps {a : EReal} (h : InRange a) : ∃ e : ℤ, -125 ≤ e ∧ e ≤ 120 ∧ refExp a = ((e : ℝ) : EReal) ∧
    kerExp a + 127#32 = BitVec.ofNat 32 (e + 127).toNat ∧ 127#32 - kerExp a = BitVec.ofNat 32 (127 - e).toNat := by
  rcases h.cases with rfl | ⟨ha, v, hv, hl, hu⟩
  · refine ⟨0, by norm_num, by norm_num, by simp [refExp], ?_, ?_⟩ <;> rw [kerExp, kerField_zero] <;> decide
  have hpos : 0 < v := lt_of_lt_of_le (by positivity) hl
  have hlog : 0 < Real.log 2 := Real.log_pos (by norm_num)
  obtain ⟨e, he⟩ : ∃ e : ℤ, ⌊Real.log v / Real.log 2⌋ = e := ⟨_, rfl⟩
  have e1 : (2 : ℝ) ^ e ≤ v := by
    rw [← Real.log_le_log_iff (by positivity) hpos, Real.log_zpow]
    exact (le_div_iff₀ hlog).mp (he ▸ Int.floor_le _)
  have e2 : v < (2 : ℝ) ^ (e + 1) := by
    rw [← Real.log_lt_log_iff hpos (by positivity), Real.log_zpow]
    push_cast
    exact (div_lt_iff₀ hlog).mp (he ▸ Int.lt_floor_add_one _)
  have e3 : -126 ≤ e := by
    have := (zpow_lt_zpow_iff_right₀ (by norm_num : (1 : ℝ) < 2)).mp (hl.trans_lt e2); omega
  have e4 : e < 120 := (zpow_lt_zpow_iff_right₀ (by norm_num : (1 : ℝ) < 2)).mp (e1.trans_lt hu)
  obtain ⟨k, hk⟩ : ∃ k : ℕ, (k : ℤ) = e + 127 := ⟨(e + 127).toNat, by omega⟩
  have hf : kerField a = BitVec.ofNat 32 k := kerField_pos hv k (by omega) (by omega)
    (by rw [show ((k : ℤ) - 127) = e by omega]; exact e1) (by rw [show ((k : ℤ) - 126) = e + 1 by omega]; exact e2)
  have hne : BitVec.ofNat 32 k ≠ 0#32 := fun h => by
    have := congrArg BitVec.toNat h
    rw [BitVec.toNat_ofNat, Nat.mod_eq_of_lt (by omega)] at this
    simp at this; omega
  have hx : kerExp a = BitVec.ofNat 32 k - 126#32 := by rw [kerExp, hf, if_neg hne]
  refine ⟨e + 1, by omega, by omega, ?_, ?_, ?_⟩
  · rw [refExp, if_neg ha, hv, Ideal.log_coe, if_neg (not_le.mpr hpos),
      Ideal.div_coe (Real.log_pos (by norm_num)).ne', ← EReal.coe_mul, mul_one_div]
    show (((⌊Real.log v / Real.log 2⌋ : ℤ) : ℝ) : EReal) + 1 = _
    rw [he]; push_cast; rfl
  · rw [hx]
    obtain rfl : e = (k : ℤ) - 127 := by omega
    rw [show ((k : ℤ) - 127 + 1 + 127).toNat = k + 1 by omega, BitVec.ofNat_add]
    bv_omega
  · rw [hx]
    obtain rfl : e = (k : ℤ) - 127 := by omega
    rw [show (127 - ((k : ℤ) - 127 + 1)).toNat = 253 - k by omega]
    apply BitVec.eq_of_toNat_eq
    simp only [BitVec.toNat_sub, BitVec.toNat_ofNat]
    omega

/-- The kernel's scale is two to the reference's exponent. -/
theorem scale_eq {a : EReal} (h : InRange a) :
    Ideal.ofBits .f32 ((kerExp a + 127#32) <<< 23) = Ideal.exp2 (refExp a) := by
  obtain ⟨e, h1, h2, hr, hs, -⟩ := exps h
  rw [hr, hs, ofBits_field _ (by omega) (by omega), show (((e + 127).toNat : ℤ) - 127) = e by omega]
  show _ = ((Real.rpow 2 (e : ℝ) : ℝ) : EReal)
  rw [← Real.rpow_intCast]; rfl

/-- The kernel's inverse scale is two to minus the reference's exponent. -/
theorem inv_eq {a : EReal} (h : InRange a) :
    Ideal.ofBits .f32 ((127#32 - kerExp a) <<< 23) = Ideal.exp2 (0 - refExp a) := by
  obtain ⟨e, h1, h2, hr, -, hs⟩ := exps h
  rw [hr, hs, ofBits_field _ (by omega) (by omega), show (((127 - e).toNat : ℤ) - 127) = -e by omega,
    zero_sub, ← EReal.coe_neg]
  show _ = ((Real.rpow 2 (-(e : ℝ)) : ℝ) : EReal)
  rw [← Real.rpow_intCast]; push_cast; rfl

/-- A frame's largest magnitude. -/
def amax (f : Fin 1280 → EReal) : EReal := (Finset.univ : Finset (Fin 1280)).fold max ⊥ fun k => max (f k) (-(f k))

/-- A code from a value and the inverse scale. -/
def codeOf (v i : EReal) : EReal := min (Ideal.ofBits .f32 0x43E00000#32) (max (Ideal.ofBits .f32 0xC3E00000#32) (v * i))

theorem minus_inf : Ideal.ofBits .f32 0xFF800000#32 = ⊥ := by simp [Ideal.ofBits, Ideal.ieee]

/-- Scale, bias and the exact GELU of one accumulated value. -/
def tailOf (acc ws b : EReal) : EReal :=
  Ideal.ofBits .f32 0x3F000000#32 * (acc * ws + b) * (1 + Ideal.erf ((acc * ws + b) * Ideal.ofBits .f32 0x3F3504F3#32))

theorem amax_nonneg (f : Fin 1280 → EReal) : 0 ≤ amax f := by
  refine (Finset.le_fold_max _).mpr (.inr ⟨0, Finset.mem_univ _, ?_⟩)
  rcases le_total 0 (f 0) with h | h
  · exact h.trans (le_max_left _ _)
  · exact (EReal.neg_nonneg.mpr h).trans (le_max_right _ _)

/-- A frame's entry dequantised: its code times its scale. -/
def deqVal (f : Fin 1280 → EReal) (k : Fin 1280) : EReal :=
  codeOf (f k) (Ideal.exp2 (0 - refExp (amax f))) * Ideal.exp2 (refExp (amax f))

end Cert.Num
-- ==== Proof.IdealProg.lean ====
/-
  The idealized kernel's body as a short program: one procedure for 128 frames of a tile (quantise them, store codes and
  scales, store their 64 rows of the convolution's left operand), one for a whole tile, one for 512 columns of the
  convolution, and the body that calls them in the kernel's order. `body_first` and `body_later` say
  that the printed body is this program.
-/
module

public import proofs.«01_k».proof.Proof.Gen.KernelIdeal.Skeleton
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

/-- Column block `o / 128` of the magnitudes of 128 frames. -/
def absAt (x : FVec F S128x1280 .bf16) (o : ℕ) (h : S128x1280.Slices ![0, o] S128x128) : FVec F S128x128 .bf16 :=
  absf (extractStridedSlice S128x128 ![0, o] x h)

/-- The magnitudes of 128 frames, the ten column blocks folded by maximum. -/
def foldMax (x : FVec F S128x1280 .bf16) : FVec F S128x128 .bf16 :=
  maximumf (maximumf (maximumf (maximumf (maximumf (maximumf (maximumf (maximumf (maximumf
    (absAt x 0 slices_S128x1280_o0_0_S128x128) (absAt x 128 slices_S128x1280_o0_128_S128x128))
    (absAt x 256 slices_S128x1280_o0_256_S128x128)) (absAt x 384 slices_S128x1280_o0_384_S128x128))
    (absAt x 512 slices_S128x1280_o0_512_S128x128)) (absAt x 640 slices_S128x1280_o0_640_S128x128))
    (absAt x 768 slices_S128x1280_o0_768_S128x128)) (absAt x 896 slices_S128x1280_o0_896_S128x128))
    (absAt x 1024 slices_S128x1280_o0_1024_S128x128)) (absAt x 1152 slices_S128x1280_o0_1152_S128x128)

/-- Each frame's largest magnitude over 448. -/
def ratio (x : FVec F S128x1280 .bf16) : FVec F S128x1 .f32 :=
  mulf (shapeCast S128x1 (multiReduction .maximumf [1] S128 (extf .f32 (foldMax x) bitsLt_bf16_f32) 0xFF800000#32
    reduces_S128x128_S128 (.inl rfl) rfl) shapeCasts_S128_S128x1) (broadcast S128x1 (Scalar.ofBits .f32 0x3B124925#32))

/-- Each frame's biased exponent field: the largest whose power of two the ratio is not below. -/
def field (x : FVec F S128x1280 .bf16) : IVec S128x1 32 :=
  shapeCast S128x1 (multiReductionI .maxsi [1] S128
    (select (cmpf .olt (broadcastTo S128x256 (ratio x) broadcasts_S128x1_S128x256)
        (bitcastToFloat .f32 (shli (iota .tc S128x256 32 [1] iota_S128x256_d1_w32) (broadcast S128x256 23#32))))
      (broadcast S128x256 0#32) (iota .tc S128x256 32 [1] iota_S128x256_d1_w32))
    2147483648#32 reduces_S128x256_S128 rfl) shapeCasts_S128_S128x1

/-- Each frame's exponent. -/
def expo (x : FVec F S128x1280 .bf16) : IVec S128x1 32 :=
  select (cmpi .eq (field x) (broadcast S128x1 0#32)) (broadcast S128x1 0#32) (subi (field x) (broadcast S128x1 126#32))

/-- Each frame's scale, as a column. -/
def scaleCol (x : FVec F S128x1280 .bf16) : FVec F S128x1 .f32 :=
  bitcastToFloat .f32 (shli (addi (expo x) (broadcast S128x1 127#32)) (broadcast S128x1 23#32))

/-- The inverse of each frame's scale, as a column. -/
def invCol (x : FVec F S128x1280 .bf16) : FVec F S128x1 .f32 :=
  bitcastToFloat .f32 (shli (subi (broadcast S128x1 127#32) (expo x)) (broadcast S128x1 23#32))

/-- The codes of 128 frames. -/
def codes (x : FVec F S128x1280 .bf16) : FVec F S128x1280 .fp8e4m3 :=
  truncf .fp8e4m3 (minimumf (broadcast S128x1280 (Scalar.truncf .bf16 bitsLt_bf16_f32 (Scalar.ofBits .f32 0x43E00000#32)))
    (maximumf (broadcast S128x1280 (Scalar.truncf .bf16 bitsLt_bf16_f32 (Scalar.ofBits .f32 0xC3E00000#32)))
      (mulf x (broadcastTo S128x1280 (truncf .bf16 (invCol x) bitsLt_bf16_f32) broadcasts_S128x1_S128x1280))))
    bitsLt_fp8e4m3_bf16

/-- The scales of 128 frames, as a row. -/
def scaleRow (x : FVec F S128x1280 .bf16) : FVec F S1x128 .f32 :=
  shapeCast S1x128 (multiReduction .add [0] S128
    (select (cmpi .eq (iota .tc S128x128 32 [0] iota_S128x128_d0_w32) (iota .tc S128x128 32 [1] iota_S128x128_d1_w32))
      (broadcastTo S128x128 (shapeCast S128x1 (scaleCol x) shapeCasts_S128x1_S128x1) broadcasts_S128x1_S128x128)
      (broadcast S128x128 (Scalar.ofBits .f32 0x00000000#32)))
    0x00000000#32 reduces_S128x128_S128_2 (.inl rfl) rfl) shapeCasts_S128_S1x128

/-- The dequantised frames: code times scale. -/
def deq (x : FVec F S128x1280 .bf16) : FVec F S128x1280 .bf16 :=
  mulf (extf .bf16 (codes x) bitsLt_fp8e4m3_bf16)
    (broadcastTo S128x1280 (truncf .bf16 (scaleCol x) bitsLt_bf16_f32) broadcasts_S128x1_S128x1280)

/-- Their even rows. -/
def evens (x : FVec F S128x1280 .bf16) : FVec F S64x1280 .f32 :=
  extf .f32 (rowsOfParity 0 S64x1280 (deq x) bitcasts_S128x1280_w16_S64x1280_w32) bitsLt_bf16_f32

/-- Their odd rows. -/
def odds (x : FVec F S128x1280 .bf16) : FVec F S64x1280 .f32 :=
  extf .f32 (rowsOfParity 1 S64x1280 (deq x) bitcasts_S128x1280_w16_S64x1280_w32) bitsLt_bf16_f32

/-- The odd rows one row down, `prev` above them. -/
def shifted (prev : FVec F S1x1280 .f32) (x : FVec F S128x1280 .bf16) : FVec F S64x1280 .f32 :=
  select (cmpi .eq (iota .tc S64x1280 32 [0] iota_S64x1280_d0_w32) (broadcast S64x1280 0#32))
    (broadcastTo S64x1280 (shapeCast S1x1280 prev shapeCasts_S1x1280_S1x1280) broadcasts_S1x1280_S64x1280)
    (dynamicRotate 0 1#32 none (odds x) rotates_S64x1280_d0)

/-- The last odd row. -/
def lastOdd (x : FVec F S128x1280 .bf16) : FVec F S1x1280 .f32 :=
  extractStridedSlice S1x1280 ![63, 0] (odds x) slices_S64x1280_o63_0_S1x1280

theorem inb128 {g : ℕ} (hg : g < 8) : ∀ a : Fin 2, (![128 * g, 0] : Fin 2 → ℕ) a + S128x1280.size a ≤ S1024x1280.size a := by
  intro a; fin_cases a <;> simp <;> omega
theorem inbRow {g : ℕ} (hg : g < 8) : ∀ a : Fin 2, (![0, 128 * g] : Fin 2 → ℕ) a + S1x128.size a ≤ S1x1024.size a := by
  intro a; fin_cases a <;> simp <;> omega
theorem inb64 {g k : ℕ} (hg : g < 8) (hk : k < 3) :
    ∀ a : Fin 2, (![64 * g, 1280 * k] : Fin 2 → ℕ) a + S64x1280.size a ≤ S512x3840.size a := by
  intro a; fin_cases a <;> simp <;> omega

theorem packed8 : ∀ (g : ℕ) (hg : g < 8),
    (Rect.unit (s := S1024x1280) ![128 * g, 0] S128x1280.size (inb128 hg)).PackedRows (EltTy.packing .fp8e4m3)
  | 0, _ => packedfp8e4m3_S1024x1280_S128x1280_0_0
  | 1, _ => packedfp8e4m3_S1024x1280_S128x1280_128_0
  | 2, _ => packedfp8e4m3_S1024x1280_S128x1280_256_0
  | 3, _ => packedfp8e4m3_S1024x1280_S128x1280_384_0
  | 4, _ => packedfp8e4m3_S1024x1280_S128x1280_512_0
  | 5, _ => packedfp8e4m3_S1024x1280_S128x1280_640_0
  | 6, _ => packedfp8e4m3_S1024x1280_S128x1280_768_0
  | 7, _ => packedfp8e4m3_S1024x1280_S128x1280_896_0
  | n + 8, h => absurd h (by omega)
theorem packed16 : ∀ (g k : ℕ) (hg : g < 8) (hk : k < 3),
    (Rect.unit (s := S512x3840) ![64 * g, 1280 * k] S64x1280.size (inb64 hg hk)).PackedRows (EltTy.packing .bf16)
  | 0, 0, _, _ => packedbf16_S512x3840_S64x1280_0_0
  | 0, 1, _, _ => packedbf16_S512x3840_S64x1280_0_1280
  | 0, 2, _, _ => packedbf16_S512x3840_S64x1280_0_2560
  | 1, 0, _, _ => packedbf16_S512x3840_S64x1280_64_0
  | 1, 1, _, _ => packedbf16_S512x3840_S64x1280_64_1280
  | 1, 2, _, _ => packedbf16_S512x3840_S64x1280_64_2560
  | 2, 0, _, _ => packedbf16_S512x3840_S64x1280_128_0
  | 2, 1, _, _ => packedbf16_S512x3840_S64x1280_128_1280
  | 2, 2, _, _ => packedbf16_S512x3840_S64x1280_128_2560
  | 3, 0, _, _ => packedbf16_S512x3840_S64x1280_192_0
  | 3, 1, _, _ => packedbf16_S512x3840_S64x1280_192_1280
  | 3, 2, _, _ => packedbf16_S512x3840_S64x1280_192_2560
  | 4, 0, _, _ => packedbf16_S512x3840_S64x1280_256_0
  | 4, 1, _, _ => packedbf16_S512x3840_S64x1280_256_1280
  | 4, 2, _, _ => packedbf16_S512x3840_S64x1280_256_2560
  | 5, 0, _, _ => packedbf16_S512x3840_S64x1280_320_0
  | 5, 1, _, _ => packedbf16_S512x3840_S64x1280_320_1280
  | 5, 2, _, _ => packedbf16_S512x3840_S64x1280_320_2560
  | 6, 0, _, _ => packedbf16_S512x3840_S64x1280_384_0
  | 6, 1, _, _ => packedbf16_S512x3840_S64x1280_384_1280
  | 6, 2, _, _ => packedbf16_S512x3840_S64x1280_384_2560
  | 7, 0, _, _ => packedbf16_S512x3840_S64x1280_448_0
  | 7, 1, _, _ => packedbf16_S512x3840_S64x1280_448_1280
  | 7, 2, _, _ => packedbf16_S512x3840_S64x1280_448_2560
  | n + 8, _, h, _ => absurd h (by omega)
  | _, n + 3, _, h => absurd h (by omega)

/-- Programs of the kernel's effects. -/
abbrev PR (α : Type) : Type 1 := Prog (TpuEff nD τ sig (Elt F) Λ₀ .tc) α

/-- One store of 64 rows of the left operand, its column block `k`. -/
def putLhs (L : Memref sig .tc .vmem S512x3840 .bf16) (hL : L.IsWhole) (g k : ℕ) (hg : g < 8) (hk : k < 3)
    (v : FVec F S64x1280 .f32) : PR (F := F) PUnit := do
  let _d : Vec F S64x1280 .bf16 ← Prog.lift (.load L (Rect.unit (s := S512x3840) ![64 * g, 1280 * k] S64x1280.size (inb64 hg hk)).toLoadRect (View.loadsAt_vmem h_S64x1280))
  Prog.lift (.store L (Rect.unit (s := S512x3840) ![64 * g, 1280 * k] S64x1280.size (inb64 hg hk))
    (shapeCast S64x1280 (truncf .bf16 v bitsLt_bf16_f32) shapeCasts_S64x1280_S64x1280) Finset.univ
    (View.stores_vmem h_S64x1280 (hL.storeExact_slice rfl _ (packed16 g k hg hk)) (fun _ => rfl)) (.inl rfl))

/-- Frames `128 g … 128 g + 127` of a tile: codes, scales and the left operand's rows, `prev` the odd row before them. -/
def group (X : Memref sig .tc .vmem S1024x1280 .bf16) (Q : Memref sig .tc .vmem S1024x1280 .fp8e4m3) (hQ : Q.IsWhole)
    (S : Memref sig .tc .vmem S1x1024 .f32) (L : Memref sig .tc .vmem S512x3840 .bf16) (hL : L.IsWhole)
    (g : ℕ) (hg : g < 8) (prev : FVec F S1x1280 .f32) : PR (F := F) (FVec F S1x1280 .f32) := do
  let x₀ : Vec F S128x1280 .bf16 ← Prog.lift (.load X (Rect.unit (s := S1024x1280) ![128 * g, 0] S128x1280.size (inb128 hg)).toLoadRect (View.loadsAt_vmem h_S128x1280))
  let x : FVec F S128x1280 .bf16 := shapeCast S128x1280 x₀ shapeCasts_S128x1280_S128x1280
  let _d : Vec F S128x1280 .fp8e4m3 ← Prog.lift (.load Q (Rect.unit (s := S1024x1280) ![128 * g, 0] S128x1280.size (inb128 hg)).toLoadRect (View.loadsAt_vmem h_S128x1280))
  Prog.lift (.store Q (Rect.unit (s := S1024x1280) ![128 * g, 0] S128x1280.size (inb128 hg))
    (shapeCast S128x1280 (codes x) shapeCasts_S128x1280_S128x1280) Finset.univ
    (View.stores_vmem h_S128x1280 (hQ.storeExact_slice rfl _ (packed8 g hg)) (fun _ => rfl)) (.inl rfl))
  let _d : Vec F S1x128 .f32 ← Prog.lift (.load S (Rect.unit (s := S1x1024) ![0, 128 * g] S1x128.size (inbRow hg)).toLoadRect (View.loadsAt_vmem h_S1x128))
  Prog.lift (.store S (Rect.unit (s := S1x1024) ![0, 128 * g] S1x128.size (inbRow hg))
    (shapeCast S1x128 (scaleRow x) shapeCasts_S1x128_S1x128) Finset.univ (View.stores_vmem_bits_univ h_S1x128 rfl) (.inl rfl))
  putLhs L hL g 0 hg (by decide) (shifted prev x)
  putLhs L hL g 1 hg (by decide) (evens x)
  putLhs L hL g 2 hg (by decide) (odds x)
  pure (lastOdd x)

/-- A whole tile: its eight groups, the carried row first replaced by zeros where `z` says so, the last odd row kept at the end. -/
def quantise (X : Memref sig .tc .vmem S1024x1280 .bf16) (Q : Memref sig .tc .vmem S1024x1280 .fp8e4m3) (hQ : Q.IsWhole)
    (S : Memref sig .tc .vmem S1x1024 .f32) (L : Memref sig .tc .vmem S512x3840 .bf16) (hL : L.IsWhole)
    (C : Memref sig .tc .vmem S8x1280 .f32) (z : BitVec 1) : PR (F := F) PUnit := do
  let c₀ : Vec F S1x1280 .f32 ← Prog.lift (.load C (Rect.unit (s := S8x1280) ![0, 0] S1x1280.size inb_S8x1280_S1x1280_0_0).toLoadRect (View.loadsAt_vmem h_S1x1280))
  let p₁ ← group X Q hQ S L hL 0 (by decide) (Scalar.select z (broadcast S1x1280 (Scalar.ofBits .f32 0x00000000#32)) c₀)
  let p₂ ← group X Q hQ S L hL 1 (by decide) p₁
  let p₃ ← group X Q hQ S L hL 2 (by decide) p₂
  let p₄ ← group X Q hQ S L hL 3 (by decide) p₃
  let p₅ ← group X Q hQ S L hL 4 (by decide) p₄
  let p₆ ← group X Q hQ S L hL 5 (by decide) p₅
  let p₇ ← group X Q hQ S L hL 6 (by decide) p₆
  let p₈ ← group X Q hQ S L hL 7 (by decide) p₇
  let _d : Vec F S1x1280 .f32 ← Prog.lift (.load C (Rect.unit (s := S8x1280) ![0, 0] S1x1280.size inb_S8x1280_S1x1280_0_0).toLoadRect (View.loadsAt_vmem h_S1x1280))
  Prog.lift (.store C (Rect.unit (s := S8x1280) ![0, 0] S1x1280.size inb_S8x1280_S1x1280_0_0)
    (shapeCast S1x1280 p₈ shapeCasts_S1x1280_S1x1280) Finset.univ (View.stores_vmem_bits_univ h_S1x1280 rfl) (.inl rfl))

theorem inbW {n : ℕ} (hn : n < 6) : ∀ a : Fin 2, (![0, 512 * n] : Fin 2 → ℕ) a + S3840x512.size a ≤ S3840x3072.size a := by
  intro a; fin_cases a <;> simp <;> omega
theorem inbB {n : ℕ} (hn : n < 6) : ∀ a : Fin 2, (![0, 512 * n] : Fin 2 → ℕ) a + S1x512.size a ≤ S1x3072.size a := by
  intro a; fin_cases a <;> simp <;> omega
theorem inbY {h n : ℕ} (hh : h < 2) (hn : n < 6) :
    ∀ a : Fin 2, (![512 * h, 512 * n] : Fin 2 → ℕ) a + S512x512.size a ≤ S1024x3072.size a := by
  intro a; fin_cases a <;> simp <;> omega
theorem packedY : ∀ (h n : ℕ) (hh : h < 2) (hn : n < 6),
    (Rect.unit (s := S1024x3072) ![512 * h, 512 * n] S512x512.size (inbY hh hn)).PackedRows (EltTy.packing .bf16)
  | 0, 0, _, _ => packedbf16_S1024x3072_S512x512_0_0
  | 0, 1, _, _ => packedbf16_S1024x3072_S512x512_0_512
  | 0, 2, _, _ => packedbf16_S1024x3072_S512x512_0_1024
  | 0, 3, _, _ => packedbf16_S1024x3072_S512x512_0_1536
  | 0, 4, _, _ => packedbf16_S1024x3072_S512x512_0_2048
  | 0, 5, _, _ => packedbf16_S1024x3072_S512x512_0_2560
  | 1, 0, _, _ => packedbf16_S1024x3072_S512x512_512_0
  | 1, 1, _, _ => packedbf16_S1024x3072_S512x512_512_512
  | 1, 2, _, _ => packedbf16_S1024x3072_S512x512_512_1024
  | 1, 3, _, _ => packedbf16_S1024x3072_S512x512_512_1536
  | 1, 4, _, _ => packedbf16_S1024x3072_S512x512_512_2048
  | 1, 5, _, _ => packedbf16_S1024x3072_S512x512_512_2560
  | n + 2, _, h, _ => absurd h (by omega)
  | _, n + 6, _, h => absurd h (by omega)

/-- What follows the product: scale, bias and the exact GELU. -/
def gelu (z : FVec F S512x512 .f32) : FVec F S512x512 .bf16 :=
  truncf .bf16 (mulf (mulf (broadcast S512x512 (Scalar.ofBits .f32 0x3F000000#32)) z)
    (addf (broadcast S512x512 (Scalar.ofBits .f32 0x3F800000#32))
      (erf (mulf z (broadcast S512x512 (Scalar.ofBits .f32 0x3F3504F3#32)))))) bitsLt_bf16_f32

/-- 512 rows by 512 columns of the result. -/
def block (l : Vec F S512x3840 .bf16) (w : Vec F S3840x512 .fp8e4m3) (ws b : Vec F S1x512 .f32) : FVec F S512x512 .bf16 :=
  gelu (addf (mulf (matmul dot_S512x3840_S3840x512_S512x512_1_0_0_1_n_n none l w (constant S512x512 .f32 0x00000000#32))
      (broadcastTo S512x512 (shapeCast S1x512 ws shapeCasts_S1x512_S1x512) broadcasts_S1x512_S512x512))
    (broadcastTo S512x512 (shapeCast S1x512 b shapeCasts_S1x512_S1x512) broadcasts_S1x512_S512x512))

/-- Columns `512 n … 512 n + 511` of the rows whose left operand is `l`. -/
def convCols (l : Vec F S512x3840 .bf16) (W : Memref sig .tc .vmem S3840x3072 .fp8e4m3) (WS B : Memref sig .tc .vmem S1x3072 .f32)
    (Y : Memref sig .tc .vmem S1024x3072 .bf16) (hY : Y.IsWhole) (h n : ℕ) (hh : h < 2) (hn : n < 6) : PR (F := F) PUnit := do
  let w : Vec F S3840x512 .fp8e4m3 ← Prog.lift (.load W (Rect.unit (s := S3840x3072) ![0, 512 * n] S3840x512.size (inbW hn)).toLoadRect (View.loadsAt_vmem h_S3840x512))
  let ws : Vec F S1x512 .f32 ← Prog.lift (.load WS (Rect.unit (s := S1x3072) ![0, 512 * n] S1x512.size (inbB hn)).toLoadRect (View.loadsAt_vmem h_S1x512))
  let b : Vec F S1x512 .f32 ← Prog.lift (.load B (Rect.unit (s := S1x3072) ![0, 512 * n] S1x512.size (inbB hn)).toLoadRect (View.loadsAt_vmem h_S1x512))
  let _d : Vec F S512x512 .bf16 ← Prog.lift (.load Y (Rect.unit (s := S1024x3072) ![512 * h, 512 * n] S512x512.size (inbY hh hn)).toLoadRect (View.loadsAt_vmem h_S512x512))
  Prog.lift (.store Y (Rect.unit (s := S1024x3072) ![512 * h, 512 * n] S512x512.size (inbY hh hn)) (block l w ws b) Finset.univ
    (View.stores_vmem h_S512x512 (hY.storeExact_slice rfl _ (packedY h n hh hn)) (fun _ => rfl)) (.inl rfl))

/-- Half `h` of the result's block: all six column blocks. -/
def conv (L : Memref sig .tc .vmem S512x3840 .bf16) (W : Memref sig .tc .vmem S3840x3072 .fp8e4m3) (WS B : Memref sig .tc .vmem S1x3072 .f32)
    (Y : Memref sig .tc .vmem S1024x3072 .bf16) (hY : Y.IsWhole) (h : ℕ) (hh : h < 2) : PR (F := F) PUnit := do
  let l : Vec F S512x3840 .bf16 ← Prog.lift (.load L (Rect.unit (s := S512x3840) ![0, 0] S512x3840.size inb_S512x3840_S512x3840_0_0).toLoadRect (View.loadsAt_vmem h_S512x3840))
  convCols l W WS B Y hY h 0 hh (by decide)
  convCols l W WS B Y hY h 1 hh (by decide)
  convCols l W WS B Y hY h 2 hh (by decide)
  convCols l W WS B Y hY h 3 hh (by decide)
  convCols l W WS B Y hY h 4 hh (by decide)
  convCols l W WS B Y hY h 5 hh (by decide)

theorem inbQ {h : ℕ} (hh : h < 2) : ∀ a : Fin 2, (![1024 * h, 0] : Fin 2 → ℕ) a + S1024x1280.size a ≤ S2048x1280.size a := by
  intro a; fin_cases a <;> simp <;> omega
theorem inbS {h : ℕ} (hh : h < 2) : ∀ a : Fin 3, (![0, 0, 1024 * h] : Fin 3 → ℕ) a + S1x1x1024.size a ≤ S1x1x2048.size a := by
  intro a; fin_cases a <;> simp <;> omega
theorem packedQ : ∀ (h : ℕ) (hh : h < 2),
    (Rect.unit (s := S2048x1280) ![1024 * h, 0] S1024x1280.size (inbQ hh)).PackedRows (EltTy.packing .fp8e4m3)
  | 0, _ => packedfp8e4m3_S2048x1280_S1024x1280_0_0
  | 1, _ => packedfp8e4m3_S2048x1280_S1024x1280_1024_0
  | n + 2, h => absurd h (by omega)

/-- A tile's codes and scales copied to half `h` of the results' blocks. -/
def copyOut (Q : Memref sig .tc .vmem S1024x1280 .fp8e4m3) (S : Memref sig .tc .vmem S1x1024 .f32)
    (QO : Memref sig .tc .vmem S2048x1280 .fp8e4m3) (hQO : QO.IsWhole) (SO : Memref sig .tc .vmem S1x1x2048 .f32)
    (h : ℕ) (hh : h < 2) : PR (F := F) PUnit := do
  let q : Vec F S1024x1280 .fp8e4m3 ← Prog.lift (.load Q (Rect.unit (s := S1024x1280) ![0, 0] S1024x1280.size inb_S1024x1280_S1024x1280_0_0).toLoadRect (View.loadsAt_vmem h_S1024x1280))
  let _d : Vec F S1024x1280 .fp8e4m3 ← Prog.lift (.load QO (Rect.unit (s := S2048x1280) ![1024 * h, 0] S1024x1280.size (inbQ hh)).toLoadRect (View.loadsAt_vmem h_S1024x1280))
  Prog.lift (.store QO (Rect.unit (s := S2048x1280) ![1024 * h, 0] S1024x1280.size (inbQ hh)) q Finset.univ
    (View.stores_vmem h_S1024x1280 (hQO.storeExact_slice rfl _ (packedQ h hh)) (fun _ => rfl)) (.inl rfl))
  let s : Vec F S1x1024 .f32 ← Prog.lift (.load S (Rect.unit (s := S1x1024) ![0, 0] S1x1024.size inb_S1x1024_S1x1024_0_0).toLoadRect (View.loadsAt_vmem h_S1x1024))
  let _d : Vec F S1x1x1024 .f32 ← Prog.lift (.load SO (Rect.unit (s := S1x1x2048) ![0, 0, 1024 * h] S1x1x1024.size (inbS hh)).toLoadRect (View.loadsAt_vmem h_S1x1x1024))
  Prog.lift (.store SO (Rect.unit (s := S1x1x2048) ![0, 0, 1024 * h] S1x1x1024.size (inbS hh))
    (shapeCast S1x1x1024 s shapeCasts_S1x1024_S1x1x1024) Finset.univ (View.stores_vmem_bits_univ h_S1x1x1024 rfl) (.inl rfl))

/-- Whether a grid point is the first, as the kernel tests it. -/
abbrev isFirst (i : grid0.Coords) : BitVec 1 :=
  Scalar.cmpi .ne (Scalar.extui (Scalar.cmpi .eq (BitVec.ofNat 32 (i 0).val) 0#32) : BitVec 32) 0#32
/-- Whether the tile after next begins a batch, as the kernel tests it. -/
abbrev begins (i : grid0.Coords) : BitVec 1 :=
  Scalar.cmpi .eq (Scalar.remsi (Scalar.addi (Scalar.muli 2#32 (BitVec.ofNat 32 (i 0).val)) 2#32) 4#32) 0#32

/-- The body after its first-point step. -/
def rest (i : grid0.Coords)
    (M1 : Memref sig .tc .vmem S1024x1280 .bf16) (h1 : M1.IsWhole) (M2 : Memref sig .tc .vmem S1024x1280 .bf16) (h2 : M2.IsWhole) (M3 : Memref sig .tc .vmem S1024x1280 .bf16) (h3 : M3.IsWhole)
    (M4 : Memref sig .tc .vmem S3840x3072 .fp8e4m3) (h4 : M4.IsWhole) (M5 : Memref sig .tc .vmem S1x3072 .f32) (h5 : M5.IsWhole) (M6 : Memref sig .tc .vmem S1x3072 .f32) (h6 : M6.IsWhole)
    (M7 : Memref sig .tc .vmem S1024x3072 .bf16) (h7 : M7.IsWhole) (M8 : Memref sig .tc .vmem S2048x1280 .fp8e4m3) (h8 : M8.IsWhole) (M9 : Memref sig .tc .vmem S1x1x2048 .f32) (h9 : M9.IsWhole)
    (M10 : Memref sig .tc .vmem S512x3840 .bf16) (h10 : M10.IsWhole) (M11 : Memref sig .tc .vmem S512x3840 .bf16) (h11 : M11.IsWhole) (M12 : Memref sig .tc .vmem S1024x1280 .fp8e4m3) (h12 : M12.IsWhole)
    (M13 : Memref sig .tc .vmem S1024x1280 .fp8e4m3) (h13 : M13.IsWhole) (M14 : Memref sig .tc .vmem S1x1024 .f32) (h14 : M14.IsWhole) (M15 : Memref sig .tc .vmem S1x1024 .f32) (h15 : M15.IsWhole)
    (M16 : Memref sig .tc .vmem S8x1280 .f32) (h16 : M16.IsWhole) : PR (F := F) PUnit := do
  copyOut M12 M14 M8 h8 M9 0 (by decide)
  quantise M2 M13 h13 M15 M11 h11 M16 0#1
  conv M10 M4 M5 M6 M7 h7 0 (by decide)
  copyOut M13 M15 M8 h8 M9 1 (by decide)
  quantise M3 M12 h12 M14 M10 h10 M16 (begins i)
  conv M11 M4 M5 M6 M7 h7 1 (by decide)

/-- At a grid point that is not the first the printed body is `rest`. -/
theorem body_later (i : grid0.Coords)
    (M1 : Memref sig .tc .vmem S1024x1280 .bf16) (h1 : M1.IsWhole) (M2 : Memref sig .tc .vmem S1024x1280 .bf16) (h2 : M2.IsWhole) (M3 : Memref sig .tc .vmem S1024x1280 .bf16) (h3 : M3.IsWhole)
    (M4 : Memref sig .tc .vmem S3840x3072 .fp8e4m3) (h4 : M4.IsWhole) (M5 : Memref sig .tc .vmem S1x3072 .f32) (h5 : M5.IsWhole) (M6 : Memref sig .tc .vmem S1x3072 .f32) (h6 : M6.IsWhole)
    (M7 : Memref sig .tc .vmem S1024x3072 .bf16) (h7 : M7.IsWhole) (M8 : Memref sig .tc .vmem S2048x1280 .fp8e4m3) (h8 : M8.IsWhole) (M9 : Memref sig .tc .vmem S1x1x2048 .f32) (h9 : M9.IsWhole)
    (M10 : Memref sig .tc .vmem S512x3840 .bf16) (h10 : M10.IsWhole) (M11 : Memref sig .tc .vmem S512x3840 .bf16) (h11 : M11.IsWhole) (M12 : Memref sig .tc .vmem S1024x1280 .fp8e4m3) (h12 : M12.IsWhole)
    (M13 : Memref sig .tc .vmem S1024x1280 .fp8e4m3) (h13 : M13.IsWhole) (M14 : Memref sig .tc .vmem S1x1024 .f32) (h14 : M14.IsWhole) (M15 : Memref sig .tc .vmem S1x1024 .f32) (h15 : M15.IsWhole)
    (M16 : Memref sig .tc .vmem S8x1280 .f32) (h16 : M16.IsWhole)
    (h : ¬ isFirst i = 1#1) :
    cc0_conv_gelu (F := F) i M1 h1 M2 h2 M3 h3 M4 h4 M5 h5 M6 h6 M7 h7 M8 h8 M9 h9 M10 h10 M11 h11 M12 h12 M13 h13 M14 h14 M15 h15 M16 h16 = rest i M1 h1 M2 h2 M3 h3 M4 h4 M5 h5 M6 h6 M7 h7 M8 h8 M9 h9 M10 h10 M11 h11 M12 h12 M13 h13 M14 h14 M15 h15 M16 h16 := by
  unfold cc0_conv_gelu
  rw [show k0_part21 (F := F) i M1 h1 M2 h2 M3 h3 M4 h4 M5 h5 M6 h6 M7 h7 M8 h8 M9 h9 M10 h10 M11 h11 M12 h12 M13 h13 M14 h14 M15 h15 M16 h16 = _ from dif_neg h]
  sl_kernel_rfl

/-- At the first grid point the printed body quantises tile 0 and goes on as `rest`. -/
theorem body_first (i : grid0.Coords)
    (M1 : Memref sig .tc .vmem S1024x1280 .bf16) (h1 : M1.IsWhole) (M2 : Memref sig .tc .vmem S1024x1280 .bf16) (h2 : M2.IsWhole) (M3 : Memref sig .tc .vmem S1024x1280 .bf16) (h3 : M3.IsWhole)
    (M4 : Memref sig .tc .vmem S3840x3072 .fp8e4m3) (h4 : M4.IsWhole) (M5 : Memref sig .tc .vmem S1x3072 .f32) (h5 : M5.IsWhole) (M6 : Memref sig .tc .vmem S1x3072 .f32) (h6 : M6.IsWhole)
    (M7 : Memref sig .tc .vmem S1024x3072 .bf16) (h7 : M7.IsWhole) (M8 : Memref sig .tc .vmem S2048x1280 .fp8e4m3) (h8 : M8.IsWhole) (M9 : Memref sig .tc .vmem S1x1x2048 .f32) (h9 : M9.IsWhole)
    (M10 : Memref sig .tc .vmem S512x3840 .bf16) (h10 : M10.IsWhole) (M11 : Memref sig .tc .vmem S512x3840 .bf16) (h11 : M11.IsWhole) (M12 : Memref sig .tc .vmem S1024x1280 .fp8e4m3) (h12 : M12.IsWhole)
    (M13 : Memref sig .tc .vmem S1024x1280 .fp8e4m3) (h13 : M13.IsWhole) (M14 : Memref sig .tc .vmem S1x1024 .f32) (h14 : M14.IsWhole) (M15 : Memref sig .tc .vmem S1x1024 .f32) (h15 : M15.IsWhole)
    (M16 : Memref sig .tc .vmem S8x1280 .f32) (h16 : M16.IsWhole)
    (h : isFirst i = 1#1) :
    cc0_conv_gelu (F := F) i M1 h1 M2 h2 M3 h3 M4 h4 M5 h5 M6 h6 M7 h7 M8 h8 M9 h9 M10 h10 M11 h11 M12 h12 M13 h13 M14 h14 M15 h15 M16 h16 =
      (quantise M1 M12 h12 M14 M10 h10 M16 1#1 >>= fun _ => rest i M1 h1 M2 h2 M3 h3 M4 h4 M5 h5 M6 h6 M7 h7 M8 h8 M9 h9 M10 h10 M11 h11 M12 h12 M13 h13 M14 h14 M15 h15 M16 h16) := by
  unfold cc0_conv_gelu
  rw [show k0_part21 (F := F) i M1 h1 M2 h2 M3 h3 M4 h4 M5 h5 M6 h6 M7 h7 M8 h8 M9 h9 M10 h10 M11 h11 M12 h12 M13 h13 M14 h14 M15 h15 M16 h16 = _ from dif_pos h]
  sl_kernel_rfl

end Cert.KernelIdeal.Body

end
-- ==== Proof.RowKernel.lean ====
/-
  The kernel's value functions over the extended reals, read at an index: a frame's codes, its scale, the dequantised frame.
-/
module

public import proofs.«01_k».proof.Proof.Num
public import proofs.«01_k».proof.Proof.IdealProg

@[expose] public section

set_option maxRecDepth 16384

noncomputable section

namespace Cert.KernelIdeal.Body

open Cert.KernelIdeal Cert.KernelIdeal.Gen Cert.Num
open Idealize.ShloMosaic Idealize.ShloMosaic.TcCoe

/-- A frame's scale as the kernel makes it. -/
def kScale (f : Fin 1280 → EReal) : EReal := Ideal.ofBits .f32 ((kerExp (amax f) + 127#32) <<< 23)

/-- The inverse of a frame's scale as the kernel makes it. -/
def kInv (f : Fin 1280 → EReal) : EReal := Ideal.ofBits .f32 ((127#32 - kerExp (amax f)) <<< 23)

/-- Frame `r` of 128. -/
def rowOf (x : FVec Ideal S128x1280 .bf16) (r : Fin 128) : Fin 1280 → EReal := fun k => x (ix2 r k)

theorem absAt_apply (x : FVec Ideal S128x1280 .bf16) (o : ℕ) (h : S128x1280.Slices ![0, o] S128x128) (r : Fin 128) (c : Fin 128)
    (k : Fin 1280) (hk : k.val = o + c.val) : absAt x o h (ix2 r c) = max (rowOf x r k) (-(rowOf x r k)) := by
  have e : extractStridedSlice S128x128 ![0, o] x h (ix2 r c) = rowOf x r k :=
    congrArg x (funext fun a => Fin.ext (by
      match a with
      | ⟨0, _⟩ => show 0 + r.val = r.val; omega
      | ⟨1, _⟩ => show o + c.val = k.val; omega))
  show max (extractStridedSlice S128x128 ![0, o] x h (ix2 r c)) (-(extractStridedSlice S128x128 ![0, o] x h (ix2 r c))) = _
  rw [e]

/-- The ten column blocks' maxima, folded along the lanes, are the frame's largest magnitude. -/
theorem foldMax_row (x : FVec Ideal S128x1280 .bf16) (r : Fin 128) :
    (Finset.univ : Finset (Fin 128)).fold max ⊥ (fun c => foldMax x (ix2 r c)) = amax (rowOf x r) := by
  have hle : ∀ k : Fin 1280, max (rowOf x r k) (-(rowOf x r k)) ≤ amax (rowOf x r) := fun k =>
    (Finset.le_fold_max _).mpr (.inr ⟨k, Finset.mem_univ _, le_rfl⟩)
  refine le_antisymm ((Finset.fold_max_le _).mpr ⟨bot_le, fun c _ => ?_⟩) ((Finset.fold_max_le _).mpr ⟨bot_le, fun k _ => ?_⟩)
  · have h : ∀ (o : ℕ) (ho : S128x1280.Slices ![0, o] S128x128) (hlt : o + c.val < 1280), absAt x o ho (ix2 r c) ≤ amax (rowOf x r) :=
      fun o ho hlt => (absAt_apply x o ho r c ⟨o + c.val, hlt⟩ rfl).le.trans (hle _)
    unfold foldMax
    have hc := c.isLt
    refine max_le (max_le (max_le (max_le (max_le (max_le (max_le (max_le (max_le ?_ ?_) ?_) ?_) ?_) ?_) ?_) ?_) ?_) ?_ <;>
      exact h _ _ (by omega)
  · refine (Finset.le_fold_max _).mpr (.inr ⟨⟨k.val % 128, Nat.mod_lt _ (by decide)⟩, Finset.mem_univ _, ?_⟩)
    have h : ∀ (o : ℕ) (ho : S128x1280.Slices ![0, o] S128x128), o = 128 * (k.val / 128) →
        max (rowOf x r k) (-(rowOf x r k)) ≤ absAt x o ho (ix2 r ⟨k.val % 128, Nat.mod_lt _ (by decide)⟩) :=
      fun o ho he => (absAt_apply x o ho r _ k (by rw [he]; exact (Nat.div_add_mod k.val 128).symm)).ge
    have hk : k.val / 128 < 10 := by have := k.isLt; omega
    unfold foldMax
    generalize k.val / 128 = q at hk h
    interval_cases q
    · exact (h _ _ rfl).trans ((le_max_left _ _).trans ((le_max_left _ _).trans ((le_max_left _ _).trans ((le_max_left _ _).trans ((le_max_left _ _).trans ((le_max_left _ _).trans ((le_max_left _ _).trans ((le_max_left _ _).trans (le_max_left _ _)))))))))
    · exact (h _ _ rfl).trans ((le_max_right _ _).trans ((le_max_left _ _).trans ((le_max_left _ _).trans ((le_max_left _ _).trans ((le_max_left _ _).trans ((le_max_left _ _).trans ((le_max_left _ _).trans ((le_max_left _ _).trans (le_max_left _ _)))))))))
    · exact (h _ _ rfl).trans ((le_max_right _ _).trans ((le_max_left _ _).trans ((le_max_left _ _).trans ((le_max_left _ _).trans ((le_max_left _ _).trans ((le_max_left _ _).trans ((le_max_left _ _).trans (le_max_left _ _))))))))
    · exact (h _ _ rfl).trans ((le_max_right _ _).trans ((le_max_left _ _).trans ((le_max_left _ _).trans ((le_max_left _ _).trans ((le_max_left _ _).trans ((le_max_left _ _).trans (le_max_left _ _)))))))
    · exact (h _ _ rfl).trans ((le_max_right _ _).trans ((le_max_left _ _).trans ((le_max_left _ _).trans ((le_max_left _ _).trans ((le_max_left _ _).trans (le_max_left _ _))))))
    · exact (h _ _ rfl).trans ((le_max_right _ _).trans ((le_max_left _ _).trans ((le_max_left _ _).trans ((le_max_left _ _).trans (le_max_left _ _)))))
    · exact (h _ _ rfl).trans ((le_max_right _ _).trans ((le_max_left _ _).trans ((le_max_left _ _).trans (le_max_left _ _))))
    · exact (h _ _ rfl).trans ((le_max_right _ _).trans ((le_max_left _ _).trans (le_max_left _ _)))
    · exact (h _ _ rfl).trans ((le_max_right _ _).trans (le_max_left _ _))
    · exact (h _ _ rfl).trans (le_max_right _ _)

theorem ratio_apply (x : FVec Ideal S128x1280 .bf16) (r : Fin 128) : ratio x (ix2 r 0) = amax (rowOf x r) * K := by
  unfold ratio
  simp only [pointwise]
  rw [minus_inf, foldMax_row]; rfl

theorem shl23 (b : BitVec 32) : IntOp.shli .vector b 23#32 = b <<< 23 := by
  unfold IntOp.shli
  rw [if_pos (by decide)]; rfl

theorem field_apply (x : FVec Ideal S128x1280 .bf16) (r : Fin 128) : field x (ix2 r 0) = kerField (amax (rowOf x r)) := by
  unfold field
  simp only [pointwise]
  unfold kerField
  refine congrArg (fun g => Finset.fold IntOp.maxsi (2147483648#32) g Finset.univ) (funext fun k => ?_)
  have e : (List.foldl (fun n a => n * ![128, 256] a + ((ix2 r k a : Fin _) : ℕ)) 0 [1]) = k.val := by
    show 0 * 256 + k.val = k.val; omega
  rw [e, shl23]
  exact congrArg (fun v : EReal => if v < Ideal.ofBits .f32 (BitVec.ofNat 32 k.val <<< 23) then 0#32 else BitVec.ofNat 32 k.val) (ratio_apply x r)

theorem expo_apply (x : FVec Ideal S128x1280 .bf16) (r : Fin 128) : expo x (ix2 r 0) = kerExp (amax (rowOf x r)) := by
  unfold expo
  simp only [pointwise]
  rw [field_apply]
  unfold kerExp
  by_cases h : kerField (amax (rowOf x r)) = 0#32
  · rw [if_pos h, h]; rfl
  · rw [if_neg h]
    have e : IntOp.cmpi .eq (kerField (amax (rowOf x r))) 0#32 = 0#1 := by
      have hne : (kerField (amax (rowOf x r)) == 0#32) = false := beq_eq_false_iff_ne.mpr h
      simp [IntOp.cmpi, hne]
    rw [e]; rfl

theorem scaleCol_apply (x : FVec Ideal S128x1280 .bf16) (r : Fin 128) : scaleCol x (ix2 r 0) = kScale (rowOf x r) := by
  unfold scaleCol
  simp only [pointwise]
  rw [expo_apply, shl23]
  rfl

theorem invCol_apply (x : FVec Ideal S128x1280 .bf16) (r : Fin 128) : invCol x (ix2 r 0) = kInv (rowOf x r) := by
  unfold invCol
  simp only [pointwise]
  rw [expo_apply, shl23]
  rfl

theorem codes_apply (x : FVec Ideal S128x1280 .bf16) (r : Fin 128) (k : Fin 1280) :
    codes x (ix2 r k) = codeOf (rowOf x r k) (kInv (rowOf x r)) := by
  unfold codes
  simp only [pointwise]
  exact congrArg (codeOf (rowOf x r k)) (invCol_apply x r)

theorem deq_apply (x : FVec Ideal S128x1280 .bf16) (r : Fin 128) (k : Fin 1280) :
    deq x (ix2 r k) = codeOf (rowOf x r k) (kInv (rowOf x r)) * kScale (rowOf x r) := by
  unfold deq
  simp only [pointwise]
  exact congrArg₂ (fun a b : EReal => a * b) (codes_apply x r k) (scaleCol_apply x r)

theorem scaleRow_apply (x : FVec Ideal S128x1280 .bf16) (r : Fin 128) : scaleRow x (ix2 0 r) = kScale (rowOf x r) := by
  unfold scaleRow
  simp only [pointwise]
  rw [Finset.sum_eq_single r]
  · have e0 : (List.foldl (fun n a => n * ![128, 128] a + ((ix2 r r a : Fin _) : ℕ)) 0 [0]) = r.val := by
      show 0 * 128 + r.val = r.val; omega
    have e1 : (List.foldl (fun n a => n * ![128, 128] a + ((ix2 r r a : Fin _) : ℕ)) 0 [1]) = r.val := by
      show 0 * 128 + r.val = r.val; omega
    rw [e0, e1]
    have e2 : IntOp.cmpi .eq (BitVec.ofNat 32 r.val) (BitVec.ofNat 32 r.val) = 1#1 := by simp [IntOp.cmpi]
    rw [e2]
    exact scaleCol_apply x r
  · intro k _ hk
    have e0 : (List.foldl (fun n a => n * ![128, 128] a + ((ix2 k r a : Fin _) : ℕ)) 0 [0]) = k.val := by
      show 0 * 128 + k.val = k.val; omega
    have e1 : (List.foldl (fun n a => n * ![128, 128] a + ((ix2 k r a : Fin _) : ℕ)) 0 [1]) = r.val := by
      show 0 * 128 + r.val = r.val; omega
    rw [e0, e1]
    have hne : (BitVec.ofNat 32 k.val == BitVec.ofNat 32 r.val) = false := by
      rw [beq_eq_false_iff_ne]
      intro h
      have h2 := congrArg BitVec.toNat h
      rw [BitVec.toNat_ofNat, BitVec.toNat_ofNat, Nat.mod_eq_of_lt (by omega), Nat.mod_eq_of_lt (by omega)] at h2
      exact hk (Fin.ext h2)
    have e2 : IntOp.cmpi .eq (BitVec.ofNat 32 k.val) (BitVec.ofNat 32 r.val) = 0#1 := by simp [IntOp.cmpi, hne]
    rw [e2]
    rfl
  · intro h; exact absurd (Finset.mem_univ _) h

theorem evens_apply (x : FVec Ideal S128x1280 .bf16) (i : Fin 64) (k : Fin 1280) :
    evens x (ix2 i k) = deq x (ix2 ⟨2 * i.val, by omega⟩ k) := by
  refine congrArg (deq x) (funext fun a => ?_)
  match a with
  | ⟨0, _⟩ => exact Fin.ext (by show 2 * i.val + 0 = 2 * i.val; omega)
  | ⟨1, _⟩ => rfl

theorem odds_apply (x : FVec Ideal S128x1280 .bf16) (i : Fin 64) (k : Fin 1280) :
    odds x (ix2 i k) = deq x (ix2 ⟨2 * i.val + 1, by omega⟩ k) := by
  refine congrArg (deq x) (funext fun a => ?_)
  match a with
  | ⟨0, _⟩ => exact Fin.ext (by show 2 * i.val + 1 = 2 * i.val + 1; omega)
  | ⟨1, _⟩ => rfl

theorem lastOdd_apply (x : FVec Ideal S128x1280 .bf16) (k : Fin 1280) : lastOdd x (ix2 0 k) = deq x (ix2 ⟨127, by decide⟩ k) := by
  refine Eq.trans (congrArg (odds x) (funext fun a => ?_)) (odds_apply x ⟨63, by decide⟩ k)
  match a with
  | ⟨0, _⟩ => rfl
  | ⟨1, _⟩ => exact Fin.ext (by show 0 + k.val = k.val; omega)

theorem shifted_apply (p : FVec Ideal S1x1280 .f32) (x : FVec Ideal S128x1280 .bf16) (i : Fin 64) (k : Fin 1280) :
    shifted p x (ix2 i k) = if h : i.val = 0 then p (ix2 0 k) else deq x (ix2 ⟨2 * i.val - 1, by omega⟩ k) := by
  unfold shifted
  simp only [pointwise]
  have e0 : (List.foldl (fun n a => n * ![64, 1280] a + ((ix2 i k a : Fin _) : ℕ)) 0 [0]) = i.val := by
    show 0 * 64 + i.val = i.val; omega
  rw [e0]
  by_cases h : i.val = 0
  · rw [dif_pos h]
    have e2 : IntOp.cmpi .eq (BitVec.ofNat 32 i.val) 0#32 = 1#1 := by rw [h]; rfl
    rw [e2]
    rfl
  · rw [dif_neg h]
    have hne : (BitVec.ofNat 32 i.val == 0#32) = false := by
      rw [beq_eq_false_iff_ne]
      intro h2
      have h3 := congrArg BitVec.toNat h2
      rw [BitVec.toNat_ofNat, Nat.mod_eq_of_lt (by omega)] at h3
      exact h h3
    have e2 : IntOp.cmpi .eq (BitVec.ofNat 32 i.val) 0#32 = 0#1 := by simp [IntOp.cmpi, hne]
    rw [e2]
    refine Eq.trans (congrArg (odds x) (funext fun a => ?_)) ((odds_apply x ⟨i.val - 1, by omega⟩ k).trans
      (congrArg (fun j => deq x (ix2 j k)) (Fin.ext (by show 2 * (i.val - 1) + 1 = 2 * i.val - 1; omega))))
    match a with
    | ⟨0, _⟩ => exact Fin.ext (by show (i.val + 64 - 1 % 64) % 64 = i.val - 1; omega)
    | ⟨1, _⟩ => rfl

theorem block_apply (l : Vec Ideal S512x3840 .bf16) (w : Vec Ideal S3840x512 .fp8e4m3) (ws b : Vec Ideal S1x512 .f32) (r c : Fin 512) :
    block l w ws b (ix2 r c) = tailOf (∑ k : Fin 3840, l (ix2 r k) * w (ix2 k c)) (ws (ix2 0 c)) (b (ix2 0 c)) := by
  unfold block gelu
  simp only [pointwise]
  rw [zero_add]
  rfl

end Cert.KernelIdeal.Body

end
-- ==== Proof.IdealTile.lean ====
/-
  What one tile's quantisation leaves: the codes, the scales and the convolution's left operand as functions of the tile
  (and of the odd row before it), and the triples of the procedures that store them.
-/
module

public import proofs.«01_k».proof.Proof.IdealProg
public import proofs.«01_k».proof.Proof.KernelIdealBody
public import Idealize.ShloMosaic.Lib.VecWindow
public import Idealize.ShloMosaic.Lib.Pointwise
public import Idealize.ShloMosaic.Lib.Pipeline.Value

@[expose] public section

set_option maxRecDepth 16384

noncomputable section

namespace Cert.KernelIdeal.Body

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The propositions about the machine's resources. -/
abbrev Res (F : FTy → Type) : Type := sProp (MT nD τ sig Unit (Elt F) ℕ (UR sig nD τ) ℕ)

/-- Frames `128 g … 128 g + 127` of a tile. -/
def blk (X : S1024x1280.Idx → F .bf16) (g : ℕ) : FVec F S128x1280 .bf16 := fun i =>
  X (ix2 ⟨(128 * g + (i 0).val) % 1024, Nat.mod_lt _ (by decide)⟩ (i 1))

/-- The codes of a tile. -/
def codesT (X : S1024x1280.Idx → F .bf16) : S1024x1280.Idx → F .fp8e4m3 := fun y =>
  codes (blk X ((y 0).val / 128)) (ix2 ⟨(y 0).val % 128, Nat.mod_lt _ (by decide)⟩ (y 1))

/-- The scales of a tile. -/
def scaleT (X : S1024x1280.Idx → F .bf16) : S1x1024.Idx → F .f32 := fun y =>
  scaleRow (blk X ((y 1).val / 128)) (ix2 0 ⟨(y 1).val % 128, Nat.mod_lt _ (by decide)⟩)

/-- The odd row before group `g` of a tile, `p` before the tile itself. -/
def prevT (p : FVec F S1x1280 .f32) (X : S1024x1280.Idx → F .bf16) : ℕ → FVec F S1x1280 .f32
  | 0 => p
  | g + 1 => lastOdd (blk X g)

/-- Column block `k` of 64 rows of the left operand. -/
def lhsB (p : FVec F S1x1280 .f32) (x : FVec F S128x1280 .bf16) : ℕ → FVec F S64x1280 .bf16
  | 0 => truncf .bf16 (shifted p x) bitsLt_bf16_f32
  | 1 => truncf .bf16 (evens x) bitsLt_bf16_f32
  | _ => truncf .bf16 (odds x) bitsLt_bf16_f32

/-- The left operand of a tile. -/
def lhsT (p : FVec F S1x1280 .f32) (X : S1024x1280.Idx → F .bf16) : S512x3840.Idx → F .bf16 := fun y =>
  lhsB (prevT p X ((y 0).val / 64)) (blk X ((y 0).val / 64)) ((y 1).val / 1280)
    (ix2 ⟨(y 0).val % 64, Nat.mod_lt _ (by decide)⟩ ⟨(y 1).val % 1280, Nat.mod_lt _ (by decide)⟩)

/-- After `g` groups the first `g` groups' rows (columns, of the scales) are the tile's. -/
structure Done (c : Dev nD) (X : S1024x1280.Idx → F .bf16) (p : FVec F S1x1280 .f32) (g : ℕ)
    (Q : Memref sig .tc .vmem S1024x1280 .fp8e4m3) (S : Memref sig .tc .vmem S1x1024 .f32) (L : Memref sig .tc .vmem S512x3840 .bf16)
    (fQ : Bf (F := F) c Q) (fS : Bf (F := F) c S) (fL : Bf (F := F) c L) : Prop where
  q : ∀ y : S1024x1280.Idx, (y 0).val < 128 * g → Q.view.read (Elt F) fQ y = codesT X y
  s : ∀ y : S1x1024.Idx, (y 1).val < 128 * g → S.view.read (Elt F) fS y = scaleT X y
  l : ∀ y : S512x3840.Idx, (y 0).val < 64 * g → L.view.read (Elt F) fL y = lhsT p X y

/-- A group's load. -/
theorem readAt_blk (c : Dev nD) (X : Memref sig .tc .vmem S1024x1280 .bf16) (fX : Bf (F := F) c X) (X₀ : S1024x1280.Idx → F .bf16)
    (hX : X.view.read (Elt F) fX = X₀) (g : ℕ) (hg : g < 8) :
    shapeCast S128x1280 (View.readAt (Elt F) X.view (Rect.unit (s := S1024x1280) ![128 * g, 0] S128x1280.size (inb128 hg)).toLoadRect fX)
      shapeCasts_S128x1280_S128x1280 = blk X₀ g := by
  refine (shapeCast_self _ _).trans ?_
  rw [View.readAt_unit X.view fX (inb128 hg) rfl (inb128 hg), hX]
  funext i
  refine congrArg X₀ (funext fun a => Fin.ext ?_)
  have h0 : (i 0).val < 128 := (i 0).isLt
  match a with
  | ⟨0, _⟩ =>
    show 128 * g + 1 * (i 0).val = (128 * g + (i 0).val) % 1024
    omega
  | ⟨1, _⟩ =>
    show 0 + 1 * (i 1).val = (i 1).val
    omega

/-- One group's stores. -/
theorem done_step (c : Dev nD) (X : S1024x1280.Idx → F .bf16) (p : FVec F S1x1280 .f32) (g : ℕ) (hg : g < 8)
    (Q : Memref sig .tc .vmem S1024x1280 .fp8e4m3) (S : Memref sig .tc .vmem S1x1024 .f32) (L : Memref sig .tc .vmem S512x3840 .bf16)
    (fQ : Bf (F := F) c Q) (fS : Bf (F := F) c S) (fL : Bf (F := F) c L) (h : Done c X p g Q S L fQ fS fL) :
    Done c X p (g + 1) Q S L
      (Q.view.writes (Elt F) fQ [⟨Rect.unit (s := S1024x1280) ![128 * g, 0] S128x1280.size (inb128 hg), codes (blk X g)⟩])
      (S.view.writes (Elt F) fS [⟨Rect.unit (s := S1x1024) ![0, 128 * g] S1x128.size (inbRow hg), scaleRow (blk X g)⟩])
      (L.view.writes (Elt F) fL [⟨Rect.unit (s := S512x3840) ![64 * g, 1280 * 2] S64x1280.size (inb64 hg (by decide)), lhsB (prevT p X g) (blk X g) 2⟩,
        ⟨Rect.unit (s := S512x3840) ![64 * g, 1280 * 1] S64x1280.size (inb64 hg (by decide)), lhsB (prevT p X g) (blk X g) 1⟩,
        ⟨Rect.unit (s := S512x3840) ![64 * g, 1280 * 0] S64x1280.size (inb64 hg (by decide)), lhsB (prevT p X g) (blk X g) 0⟩]) where
  q y hy := by
    by_cases hlt : (y 0).val < 128 * g
    · rw [View.read_writes_cons_unit_of_not_mem _ _ _ _ _ y rfl 0 (.inl hlt)]
      exact h.q y hlt
    · have e : (y 0).val / 128 = g := by omega
      refine (View.read_writes_cons_unit_of_mem Q.view fQ (inb128 hg) (codes (blk X g)) [] y
        (ix2 ⟨(y 0).val % 128, Nat.mod_lt _ (by decide)⟩ (y 1)) rfl
        (Fin.forall_fin_two.mpr ⟨by show (y 0).val = 128 * g + (y 0).val % 128; omega, by show (y 1).val = 0 + (y 1).val; omega⟩)).trans ?_
      unfold codesT; rw [e]
  s y hy := by
    by_cases hlt : (y 1).val < 128 * g
    · rw [View.read_writes_cons_unit_of_not_mem _ _ _ _ _ y rfl 1 (.inl hlt)]
      exact h.s y hlt
    · have e : (y 1).val / 128 = g := by omega
      have h0 : (y 0).val < 1 := (y 0).isLt
      refine (View.read_writes_cons_unit_of_mem S.view fS (inbRow hg) (scaleRow (blk X g)) [] y
        (ix2 0 ⟨(y 1).val % 128, Nat.mod_lt _ (by decide)⟩) rfl
        (Fin.forall_fin_two.mpr ⟨by show (y 0).val = 0 + 0; omega, by show (y 1).val = 128 * g + (y 1).val % 128; omega⟩)).trans ?_
      unfold scaleT; rw [e]
  l y hy := by
    have h1 : (y 1).val < 3840 := (y 1).isLt
    by_cases hlt : (y 0).val < 64 * g
    · rw [View.read_writes_cons_unit_of_not_mem _ _ _ _ _ y rfl 0 (.inl hlt),
        View.read_writes_cons_unit_of_not_mem _ _ _ _ _ y rfl 0 (.inl hlt),
        View.read_writes_cons_unit_of_not_mem _ _ _ _ _ y rfl 0 (.inl hlt)]
      exact h.l y hlt
    · have e : (y 0).val / 64 = g := by omega
      have hx : ∀ k, (y 1).val / 1280 = k → ∀ a : Fin 2, (y a).val = (![64 * g, 1280 * k] : Fin 2 → ℕ) a
          + ((ix2 (n0 := 64) (n1 := 1280) ⟨(y 0).val % 64, Nat.mod_lt _ (by decide)⟩ ⟨(y 1).val % 1280, Nat.mod_lt _ (by decide)⟩) a).val :=
        fun k hk => Fin.forall_fin_two.mpr ⟨by show (y 0).val = 64 * g + (y 0).val % 64; omega,
          by show (y 1).val = 1280 * k + (y 1).val % 1280; omega⟩
      unfold lhsT; rw [e]
      have hk : (y 1).val / 1280 = 0 ∨ (y 1).val / 1280 = 1 ∨ (y 1).val / 1280 = 2 := by omega
      have hit := fun k (hk3 : k < 3) (hk : (y 1).val / 1280 = k) (M : List (View.Piece (Elt F) S512x3840 .bf16)) =>
        View.read_writes_cons_unit_of_mem L.view fL (inb64 hg hk3) (lhsB (prevT p X g) (blk X g) k) M y _ rfl (hx k hk)
      rcases hk with hk | hk | hk
      · rw [View.read_writes_cons_unit_of_not_mem _ _ _ _ _ y rfl 1 (.inl (by show (y 1).val < 1280 * 2; omega)),
          View.read_writes_cons_unit_of_not_mem _ _ _ _ _ y rfl 1 (.inl (by show (y 1).val < 1280 * 1; omega)), hk]
        exact hit 0 (by decide) hk _
      · rw [View.read_writes_cons_unit_of_not_mem _ _ _ _ _ y rfl 1 (.inl (by show (y 1).val < 1280 * 2; omega)), hk]
        exact hit 1 (by decide) hk _
      · rw [hk]
        exact hit 2 (by decide) hk _

/-- One group. -/
theorem group_spec (c : Dev nD) (X : Memref sig .tc .vmem S1024x1280 .bf16) (X₀ : S1024x1280.Idx → F .bf16) (p : FVec F S1x1280 .f32)
    (Q : Memref sig .tc .vmem S1024x1280 .fp8e4m3) (hQ : Q.IsWhole)
    (S : Memref sig .tc .vmem S1x1024 .f32) (hS : S.IsWhole) (L : Memref sig .tc .vmem S512x3840 .bf16) (hL : L.IsWhole)
    (g : ℕ) (hg : g < 8) (prev : FVec F S1x1280 .f32) (fX : Bf (F := F) c X) (hX : X.view.read (Elt F) fX = X₀)
    (fQ : Bf (F := F) c Q) (fS : Bf (F := F) c S) (fL : Bf (F := F) c L)
    (hd : Done c X₀ p g Q S L fQ fS fL) (hp : prev = prevT p X₀ g)
    (E : Set ℕ) (Φ : FVec F S1x1280 .f32 → Res F) :
    iprop(wn c X fX ∗ pt c Q fQ ∗ pt c S fS ∗ pt c L fL ∗ (∀ fQ' fS' fL', ⌜Done c X₀ p (g + 1) Q S L fQ' fS' fL'⌝ -∗
        iprop(wn c X fX ∗ pt c Q fQ' ∗ pt c S fS' ∗ pt c L fL') -∗ Φ (prevT p X₀ (g + 1))))
      ⊢ wp frame (wpE (defs₀ (F := F)) Variants.none c none) E (group X Q hQ S L hL g hg prev) Φ := by
  iintro ⟨H1, H2, H3, H4, Hk⟩
  unfold group putLhs
  have hx := readAt_blk c X fX X₀ hX g hg
  sl_exec!
  sl_step
  have hd' := done_step c X₀ p g hg Q S L fQ fS fL hd
  rw [show group_spec.sl.x c X g hg fX = blk X₀ g from hx]
  simp only [shapeCast_self]
  subst hp
  rw [show lastOdd (blk X₀ g) = prevT p X₀ (g + 1) from rfl]
  iapply Hk $$ [] [H1 H2 H3 H4]
  · ipureintro; exact hd'
  isplitl [H1]; · iexact H1
  isplitl [H2]; · iexact H2
  isplitl [H3]; · iexact H3
  iexact H4

/-- Row 0 of the carry. -/
def crow (c : Dev nD) (C : Memref sig .tc .vmem S8x1280 .f32) (fC : Bf (F := F) c C) : FVec F S1x1280 .f32 := fun i =>
  C.view.read (Elt F) fC (ix2 0 (i 1))

/-- The load of the carried row. -/
theorem loadRow_spec (c : Dev nD) (C : Memref sig .tc .vmem S8x1280 .f32) (fC : Bf (F := F) c C) (E : Set ℕ)
    (Φ : Vec F S1x1280 .f32 → Res F) :
    iprop(pt c C fC ∗ (pt c C fC -∗ Φ (crow c C fC)))
      ⊢ wp frame (wpE (defs₀ (F := F)) Variants.none c none) E
        (Prog.lift (.load C (Rect.unit (s := S8x1280) ![0, 0] S1x1280.size inb_S8x1280_S1x1280_0_0).toLoadRect (View.loadsAt_vmem h_S1x1280)) : PR (F := F) _) Φ := by
  iintro ⟨H1, Hk⟩
  have e : View.readAt (Elt F) C.view (Rect.unit (s := S8x1280) ![0, 0] S1x1280.size inb_S8x1280_S1x1280_0_0).toLoadRect fC = crow c C fC := by
    rw [View.readAt_unit C.view fC inb_S8x1280_S1x1280_0_0 rfl inb_S8x1280_S1x1280_0_0]
    funext i
    refine congrArg (C.view.read (Elt F) fC) (funext fun a => Fin.ext ?_)
    have h0 : (i 0).val < 1 := (i 0).isLt
    match a with
    | ⟨0, _⟩ => show 0 + 1 * (i 0).val = 0; omega
    | ⟨1, _⟩ => show 0 + 1 * (i 1).val = (i 1).val; omega
  sl_exec!
  sl_step
  iapply Hk; iexact H1

/-- The store of the carried row. -/
theorem storeRow_spec (c : Dev nD) (C : Memref sig .tc .vmem S8x1280 .f32) (v : FVec F S1x1280 .f32) (fC : Bf (F := F) c C) (E : Set ℕ)
    (Φ : PUnit → Res F) :
    iprop(pt c C fC ∗ (∀ fC', ⌜crow c C fC' = v⌝ -∗ pt c C fC' -∗ Φ ⟨⟩))
      ⊢ wp frame (wpE (defs₀ (F := F)) Variants.none c none) E
        (do
          let _d : Vec F S1x1280 .f32 ← Prog.lift (.load C (Rect.unit (s := S8x1280) ![0, 0] S1x1280.size inb_S8x1280_S1x1280_0_0).toLoadRect (View.loadsAt_vmem h_S1x1280))
          Prog.lift (.store C (Rect.unit (s := S8x1280) ![0, 0] S1x1280.size inb_S8x1280_S1x1280_0_0)
            (shapeCast S1x1280 v shapeCasts_S1x1280_S1x1280) Finset.univ (View.stores_vmem_bits_univ h_S1x1280 rfl) (.inl rfl)) : PR (F := F) PUnit) Φ := by
  iintro ⟨H1, Hk⟩
  sl_exec!
  sl_step
  iapply Hk $$ [] [H1]; swap; (· iexact H1)
  ipureintro
  rw [shapeCast_self]
  funext i
  refine View.read_writes_cons_unit_of_mem C.view fC inb_S8x1280_S1x1280_0_0 v [] _ i rfl (Fin.forall_fin_two.mpr ⟨?_, ?_⟩)
  · have h0 : (i 0).val < 1 := (i 0).isLt
    show 0 = 0 + (i 0).val; omega
  · show (i 1).val = 0 + (i 1).val; omega

/-- A whole tile. -/
theorem quantise_spec (c : Dev nD) (X : Memref sig .tc .vmem S1024x1280 .bf16) (X₀ : S1024x1280.Idx → F .bf16) (p : FVec F S1x1280 .f32)
    (Q : Memref sig .tc .vmem S1024x1280 .fp8e4m3) (hQ : Q.IsWhole)
    (S : Memref sig .tc .vmem S1x1024 .f32) (hS : S.IsWhole) (L : Memref sig .tc .vmem S512x3840 .bf16) (hL : L.IsWhole)
    (C : Memref sig .tc .vmem S8x1280 .f32) (hC : C.IsWhole) (z : BitVec 1)
    (fX : Bf (F := F) c X) (hX : X.view.read (Elt F) fX = X₀)
    (fQ : Bf (F := F) c Q) (fS : Bf (F := F) c S) (fL : Bf (F := F) c L) (fC : Bf (F := F) c C)
    (hp : Scalar.select z (broadcast S1x1280 (Scalar.ofBits .f32 0x00000000#32)) (crow c C fC) = p)
    (E : Set ℕ) (Φ : PUnit → Res F) :
    iprop(wn c X fX ∗ pt c Q fQ ∗ pt c S fS ∗ pt c L fL ∗ pt c C fC ∗ (∀ fQ' fS' fL' fC',
        ⌜Q.view.read (Elt F) fQ' = codesT X₀ ∧ S.view.read (Elt F) fS' = scaleT X₀ ∧ L.view.read (Elt F) fL' = lhsT p X₀
          ∧ crow c C fC' = lastOdd (blk X₀ 7)⌝ -∗
        iprop(wn c X fX ∗ pt c Q fQ' ∗ pt c S fS' ∗ pt c L fL' ∗ pt c C fC') -∗ Φ ⟨⟩))
      ⊢ wp frame (wpE (defs₀ (F := F)) Variants.none c none) E (quantise X Q hQ S L hL C z) Φ := by
  iintro ⟨H1, H2, H3, H4, H5, Hk⟩
  unfold quantise
  rw [wp_bind]
  iapply (loadRow_spec c C fC E _)
  isplitl [H5]; · iexact H5
  iintro H5
  rw [hp]
  have hd0 : Done c X₀ p 0 Q S L fQ fS fL := ⟨fun y h => absurd h (by omega), fun y h => absurd h (by omega), fun y h => absurd h (by omega)⟩
  rw [wp_bind]
  iapply (group_spec c X X₀ p Q hQ S hS L hL 0 _ _ fX hX _ _ _ hd0 rfl E _)
  isplitl [H1]; · iexact H1
  isplitl [H2]; · iexact H2
  isplitl [H3]; · iexact H3
  isplitl [H4]; · iexact H4
  iintro %q0 %s0 %l0 %hd1 ⟨H1, H2, H3, H4⟩
  rw [wp_bind]
  iapply (group_spec c X X₀ p Q hQ S hS L hL 1 _ _ fX hX _ _ _ hd1 rfl E _)
  isplitl [H1]; · iexact H1
  isplitl [H2]; · iexact H2
  isplitl [H3]; · iexact H3
  isplitl [H4]; · iexact H4
  iintro %q1 %s1 %l1 %hd2 ⟨H1, H2, H3, H4⟩
  rw [wp_bind]
  iapply (group_spec c X X₀ p Q hQ S hS L hL 2 _ _ fX hX _ _ _ hd2 rfl E _)
  isplitl [H1]; · iexact H1
  isplitl [H2]; · iexact H2
  isplitl [H3]; · iexact H3
  isplitl [H4]; · iexact H4
  iintro %q2 %s2 %l2 %hd3 ⟨H1, H2, H3, H4⟩
  rw [wp_bind]
  iapply (group_spec c X X₀ p Q hQ S hS L hL 3 _ _ fX hX _ _ _ hd3 rfl E _)
  isplitl [H1]; · iexact H1
  isplitl [H2]; · iexact H2
  isplitl [H3]; · iexact H3
  isplitl [H4]; · iexact H4
  iintro %q3 %s3 %l3 %hd4 ⟨H1, H2, H3, H4⟩
  rw [wp_bind]
  iapply (group_spec c X X₀ p Q hQ S hS L hL 4 _ _ fX hX _ _ _ hd4 rfl E _)
  isplitl [H1]; · iexact H1
  isplitl [H2]; · iexact H2
  isplitl [H3]; · iexact H3
  isplitl [H4]; · iexact H4
  iintro %q4 %s4 %l4 %hd5 ⟨H1, H2, H3, H4⟩
  rw [wp_bind]
  iapply (group_spec c X X₀ p Q hQ S hS L hL 5 _ _ fX hX _ _ _ hd5 rfl E _)
  isplitl [H1]; · iexact H1
  isplitl [H2]; · iexact H2
  isplitl [H3]; · iexact H3
  isplitl [H4]; · iexact H4
  iintro %q5 %s5 %l5 %hd6 ⟨H1, H2, H3, H4⟩
  rw [wp_bind]
  iapply (group_spec c X X₀ p Q hQ S hS L hL 6 _ _ fX hX _ _ _ hd6 rfl E _)
  isplitl [H1]; · iexact H1
  isplitl [H2]; · iexact H2
  isplitl [H3]; · iexact H3
  isplitl [H4]; · iexact H4
  iintro %q6 %s6 %l6 %hd7 ⟨H1, H2, H3, H4⟩
  rw [wp_bind]
  iapply (group_spec c X X₀ p Q hQ S hS L hL 7 _ _ fX hX _ _ _ hd7 rfl E _)
  isplitl [H1]; · iexact H1
  isplitl [H2]; · iexact H2
  isplitl [H3]; · iexact H3
  isplitl [H4]; · iexact H4
  iintro %q7 %s7 %l7 %hd8 ⟨H1, H2, H3, H4⟩
  iapply (storeRow_spec c C _ fC E _)
  isplitl [H5]; · iexact H5
  iintro %fC' %hC' H5
  iapply Hk $$ [] [H1 H2 H3 H4 H5]
  · ipureintro
    refine ⟨funext fun y => hd8.q y (by have h0 : (y 0).val < 1024 := (y 0).isLt; omega), funext fun y => hd8.s y (by have h0 : (y 1).val < 1024 := (y 1).isLt; omega),
      funext fun y => hd8.l y (by have h0 : (y 0).val < 512 := (y 0).isLt; omega), hC'⟩
  isplitl [H1]; · iexact H1
  isplitl [H2]; · iexact H2
  isplitl [H3]; · iexact H3
  isplitl [H4]; · iexact H4
  iexact H5

end Cert.KernelIdeal.Body

end
-- ==== Proof.IdealConv.lean ====
/-
  What the product's procedure and the copies leave: half a block of the result, the blocks of codes and scales.
-/
module

public import proofs.«01_k».proof.Proof.IdealTile

@[expose] public section

set_option maxRecDepth 16384

noncomputable section

namespace Cert.KernelIdeal.Body

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Columns `512 n … 512 n + 511` of the codes of the weights. -/
def wCols (w : S3840x3072.Idx → F .fp8e4m3) (n : ℕ) : FVec F S3840x512 .fp8e4m3 := fun i =>
  w (ix2 (i 0) ⟨(512 * n + (i 1).val) % 3072, Nat.mod_lt _ (by decide)⟩)

/-- Columns `512 n … 512 n + 511` of a row of 3072. -/
def bCols (b : S1x3072.Idx → F .f32) (n : ℕ) : FVec F S1x512 .f32 := fun i =>
  b (ix2 (i 0) ⟨(512 * n + (i 1).val) % 3072, Nat.mod_lt _ (by decide)⟩)

/-- The result's block from the two left operands, the weights' codes and scales and the bias. -/
def yT (l : ℕ → FVec F S512x3840 .bf16) (w : S3840x3072.Idx → F .fp8e4m3) (ws b : S1x3072.Idx → F .f32) : S1024x3072.Idx → F .bf16 := fun y =>
  block (l ((y 0).val / 512)) (wCols w ((y 1).val / 512)) (bCols ws ((y 1).val / 512)) (bCols b ((y 1).val / 512))
    (ix2 ⟨(y 0).val % 512, Nat.mod_lt _ (by decide)⟩ ⟨(y 1).val % 512, Nat.mod_lt _ (by decide)⟩)

/-- A column block's load of the weights. -/
theorem readAt_wCols (c : Dev nD) (W : Memref sig .tc .vmem S3840x3072 .fp8e4m3) (fW : Bf (F := F) c W) (n : ℕ) (hn : n < 6) :
    View.readAt (Elt F) W.view (Rect.unit (s := S3840x3072) ![0, 512 * n] S3840x512.size (inbW hn)).toLoadRect fW
      = wCols (W.view.read (Elt F) fW) n := by
  rw [View.readAt_unit W.view fW (inbW hn) rfl (inbW hn)]
  funext i
  refine congrArg (W.view.read (Elt F) fW) (funext fun a => Fin.ext ?_)
  have h0 : (i 1).val < 512 := (i 1).isLt
  match a with
  | ⟨0, _⟩ => show 0 + 1 * (i 0).val = (i 0).val; omega
  | ⟨1, _⟩ => show 512 * n + 1 * (i 1).val = (512 * n + (i 1).val) % 3072; omega

/-- A column block's load of a row. -/
theorem readAt_bCols (c : Dev nD) (B : Memref sig .tc .vmem S1x3072 .f32) (fB : Bf (F := F) c B) (n : ℕ) (hn : n < 6) :
    View.readAt (Elt F) B.view (Rect.unit (s := S1x3072) ![0, 512 * n] S1x512.size (inbB hn)).toLoadRect fB
      = bCols (B.view.read (Elt F) fB) n := by
  rw [View.readAt_unit B.view fB (inbB hn) rfl (inbB hn)]
  funext i
  refine congrArg (B.view.read (Elt F) fB) (funext fun a => Fin.ext ?_)
  have h0 : (i 1).val < 512 := (i 1).isLt
  match a with
  | ⟨0, _⟩ => show 0 + 1 * (i 0).val = (i 0).val; omega
  | ⟨1, _⟩ => show 512 * n + 1 * (i 1).val = (512 * n + (i 1).val) % 3072; omega

/-- The result's block is filled up to half `h`, column block `n`. -/
def Filled (c : Dev nD) (T : S1024x3072.Idx → F .bf16) (h n : ℕ) (Y : Memref sig .tc .vmem S1024x3072 .bf16) (fY : Bf (F := F) c Y) : Prop :=
  ∀ y : S1024x3072.Idx, ((y 0).val < 512 * h ∨ (y 0).val < 512 * (h + 1) ∧ (y 1).val < 512 * n) → Y.view.read (Elt F) fY y = T y

/-- One column block's store. -/
theorem filled_step (c : Dev nD) (l : ℕ → FVec F S512x3840 .bf16) (Y : Memref sig .tc .vmem S1024x3072 .bf16) (h n : ℕ) (hh : h < 2) (hn : n < 6)
    (w₀ : S3840x3072.Idx → F .fp8e4m3) (ws₀ b₀ : S1x3072.Idx → F .f32) (fY : Bf (F := F) c Y) (hd : Filled c (yT l w₀ ws₀ b₀) h n Y fY) :
    Filled c (yT l w₀ ws₀ b₀) h (n + 1) Y (Y.view.writes (Elt F) fY
      [⟨Rect.unit (s := S1024x3072) ![512 * h, 512 * n] S512x512.size (inbY hh hn), block (l h) (wCols w₀ n) (bCols ws₀ n) (bCols b₀ n)⟩]) := by
  intro y hy
  have h0 : (y 0).val < 1024 := (y 0).isLt
  by_cases hlt : (y 0).val < 512 * h
  · rw [View.read_writes_cons_unit_of_not_mem _ _ _ _ _ y rfl 0 (.inl hlt)]
    exact hd y (.inl hlt)
  by_cases hlt' : (y 1).val < 512 * n
  · rw [View.read_writes_cons_unit_of_not_mem _ _ _ _ _ y rfl 1 (.inl hlt')]
    exact hd y (.inr ⟨by omega, hlt'⟩)
  have e0 : (y 0).val / 512 = h := by omega
  have e1 : (y 1).val / 512 = n := by omega
  refine (View.read_writes_cons_unit_of_mem Y.view fY (inbY hh hn) (block (l h) (wCols w₀ n) (bCols ws₀ n) (bCols b₀ n)) [] y
      (ix2 ⟨(y 0).val % 512, Nat.mod_lt _ (by decide)⟩ ⟨(y 1).val % 512, Nat.mod_lt _ (by decide)⟩) rfl
      (Fin.forall_fin_two.mpr ⟨by show (y 0).val = 512 * h + (y 0).val % 512; omega, by show (y 1).val = 512 * n + (y 1).val % 512; omega⟩)).trans ?_
  unfold yT; rw [e0, e1]

/-- One column block. -/
theorem convCols_spec (c : Dev nD) (l : ℕ → FVec F S512x3840 .bf16) (W : Memref sig .tc .vmem S3840x3072 .fp8e4m3)
    (WS B : Memref sig .tc .vmem S1x3072 .f32) (Y : Memref sig .tc .vmem S1024x3072 .bf16) (hY : Y.IsWhole) (h n : ℕ) (hh : h < 2) (hn : n < 6)
    (w₀ : S3840x3072.Idx → F .fp8e4m3) (ws₀ b₀ : S1x3072.Idx → F .f32)
    (fW : Bf (F := F) c W) (fWS : Bf (F := F) c WS) (fB : Bf (F := F) c B) (fY : Bf (F := F) c Y)
    (hw : W.view.read (Elt F) fW = w₀) (hws : WS.view.read (Elt F) fWS = ws₀) (hb : B.view.read (Elt F) fB = b₀)
    (hd : Filled c (yT l w₀ ws₀ b₀) h n Y fY) (E : Set ℕ) (Φ : PUnit → Res F) :
    iprop(wn c W fW ∗ wn c WS fWS ∗ wn c B fB ∗ wn c Y fY ∗ (∀ fY', ⌜Filled c (yT l w₀ ws₀ b₀) h (n + 1) Y fY'⌝ -∗
        iprop(wn c W fW ∗ wn c WS fWS ∗ wn c B fB ∗ wn c Y fY') -∗ Φ ⟨⟩))
      ⊢ wp frame (wpE (defs₀ (F := F)) Variants.none c none) E (convCols (l h) W WS B Y hY h n hh hn) Φ := by
  iintro ⟨H1, H2, H3, H4, Hk⟩
  have e1 := (readAt_wCols c W fW n hn).trans (by rw [hw])
  have e2 := (readAt_bCols c WS fWS n hn).trans (by rw [hws])
  have e3 := (readAt_bCols c B fB n hn).trans (by rw [hb])
  unfold convCols
  sl_exec!
  sl_step
  iapply Hk $$ [] [H1 H2 H3 H4]
  · ipureintro
    exact filled_step c l Y h n hh hn w₀ ws₀ b₀ fY hd
  isplitl [H1]; · iexact H1
  isplitl [H2]; · iexact H2
  isplitl [H3]; · iexact H3
  iexact H4

/-- The left operand's load. -/
theorem loadL_spec (c : Dev nD) (L : Memref sig .tc .vmem S512x3840 .bf16) (l₀ : FVec F S512x3840 .bf16) (fL : Bf (F := F) c L)
    (hl : L.view.read (Elt F) fL = l₀) (E : Set ℕ) (Φ : Vec F S512x3840 .bf16 → Res F) :
    iprop(pt c L fL ∗ (pt c L fL -∗ Φ l₀))
      ⊢ wp frame (wpE (defs₀ (F := F)) Variants.none c none) E
        (Prog.lift (.load L (Rect.unit (s := S512x3840) ![0, 0] S512x3840.size inb_S512x3840_S512x3840_0_0).toLoadRect (View.loadsAt_vmem h_S512x3840)) : PR (F := F) _) Φ := by
  iintro ⟨H1, Hk⟩
  have e : View.readAt (Elt F) L.view (Rect.unit (s := S512x3840) ![0, 0] S512x3840.size inb_S512x3840_S512x3840_0_0).toLoadRect fL = l₀ :=
    (View.readAt_full L.view fL inb_S512x3840_S512x3840_0_0).trans hl
  sl_exec!
  sl_step
  iapply Hk; iexact H1

/-- Half a block of the result. -/
theorem conv_spec (c : Dev nD) (l : ℕ → FVec F S512x3840 .bf16) (L : Memref sig .tc .vmem S512x3840 .bf16) (W : Memref sig .tc .vmem S3840x3072 .fp8e4m3)
    (WS B : Memref sig .tc .vmem S1x3072 .f32) (Y : Memref sig .tc .vmem S1024x3072 .bf16) (hY : Y.IsWhole) (h : ℕ) (hh : h < 2)
    (w₀ : S3840x3072.Idx → F .fp8e4m3) (ws₀ b₀ : S1x3072.Idx → F .f32)
    (fL : Bf (F := F) c L) (fW : Bf (F := F) c W) (fWS : Bf (F := F) c WS) (fB : Bf (F := F) c B) (fY : Bf (F := F) c Y)
    (hl : L.view.read (Elt F) fL = l h)
    (hw : W.view.read (Elt F) fW = w₀) (hws : WS.view.read (Elt F) fWS = ws₀) (hb : B.view.read (Elt F) fB = b₀)
    (hd : Filled c (yT l w₀ ws₀ b₀) h 0 Y fY) (E : Set ℕ) (Φ : PUnit → Res F) :
    iprop(pt c L fL ∗ wn c W fW ∗ wn c WS fWS ∗ wn c B fB ∗ wn c Y fY ∗ (∀ fY', ⌜Filled c (yT l w₀ ws₀ b₀) (h + 1) 0 Y fY'⌝ -∗
        iprop(pt c L fL ∗ wn c W fW ∗ wn c WS fWS ∗ wn c B fB ∗ wn c Y fY') -∗ Φ ⟨⟩))
      ⊢ wp frame (wpE (defs₀ (F := F)) Variants.none c none) E (conv L W WS B Y hY h hh) Φ := by
  iintro ⟨H0, H1, H2, H3, H4, Hk⟩
  unfold conv
  rw [wp_bind]
  iapply (loadL_spec c L (l h) fL hl E _)
  isplitl [H0]; · iexact H0
  iintro H0
  have hd0 := hd
  rw [wp_bind]
  iapply (convCols_spec c l W WS B Y hY h 0 hh _ w₀ ws₀ b₀ fW fWS fB _ hw hws hb hd0 E _)
  isplitl [H1]; · iexact H1
  isplitl [H2]; · iexact H2
  isplitl [H3]; · iexact H3
  isplitl [H4]; · iexact H4
  iintro %y0 %hd1 ⟨H1, H2, H3, H4⟩
  rw [wp_bind]
  iapply (convCols_spec c l W WS B Y hY h 1 hh _ w₀ ws₀ b₀ fW fWS fB _ hw hws hb hd1 E _)
  isplitl [H1]; · iexact H1
  isplitl [H2]; · iexact H2
  isplitl [H3]; · iexact H3
  isplitl [H4]; · iexact H4
  iintro %y1 %hd2 ⟨H1, H2, H3, H4⟩
  rw [wp_bind]
  iapply (convCols_spec c l W WS B Y hY h 2 hh _ w₀ ws₀ b₀ fW fWS fB _ hw hws hb hd2 E _)
  isplitl [H1]; · iexact H1
  isplitl [H2]; · iexact H2
  isplitl [H3]; · iexact H3
  isplitl [H4]; · iexact H4
  iintro %y2 %hd3 ⟨H1, H2, H3, H4⟩
  rw [wp_bind]
  iapply (convCols_spec c l W WS B Y hY h 3 hh _ w₀ ws₀ b₀ fW fWS fB _ hw hws hb hd3 E _)
  isplitl [H1]; · iexact H1
  isplitl [H2]; · iexact H2
  isplitl [H3]; · iexact H3
  isplitl [H4]; · iexact H4
  iintro %y3 %hd4 ⟨H1, H2, H3, H4⟩
  rw [wp_bind]
  iapply (convCols_spec c l W WS B Y hY h 4 hh _ w₀ ws₀ b₀ fW fWS fB _ hw hws hb hd4 E _)
  isplitl [H1]; · iexact H1
  isplitl [H2]; · iexact H2
  isplitl [H3]; · iexact H3
  isplitl [H4]; · iexact H4
  iintro %y4 %hd5 ⟨H1, H2, H3, H4⟩
  iapply (convCols_spec c l W WS B Y hY h 5 hh _ w₀ ws₀ b₀ fW fWS fB _ hw hws hb hd5 E _)
  isplitl [H1]; · iexact H1
  isplitl [H2]; · iexact H2
  isplitl [H3]; · iexact H3
  isplitl [H4]; · iexact H4
  iintro %y5 %hd6 ⟨H1, H2, H3, H4⟩
  iapply Hk $$ [] [H0 H1 H2 H3 H4]
  · ipureintro
    intro y hy
    have h0 : (y 1).val < 3072 := (y 1).isLt
    exact hd6 y (.inr ⟨by omega, by omega⟩)
  isplitl [H0]; · iexact H0
  isplitl [H1]; · iexact H1
  isplitl [H2]; · iexact H2
  isplitl [H3]; · iexact H3
  iexact H4

/-- Two tiles' codes one above the other. -/
def qT (q : ℕ → S1024x1280.Idx → F .fp8e4m3) : S2048x1280.Idx → F .fp8e4m3 := fun y =>
  q ((y 0).val / 1024) (ix2 ⟨(y 0).val % 1024, Nat.mod_lt _ (by decide)⟩ (y 1))
/-- Two tiles' scales one after the other. -/
def sT (s : ℕ → S1x1024.Idx → F .f32) : S1x1x2048.Idx → F .f32 := fun y =>
  s ((y 2).val / 1024) (ix2 0 ⟨(y 2).val % 1024, Nat.mod_lt _ (by decide)⟩)

/-- The blocks of codes and scales are filled by the first `h` tiles. -/
structure Copied (c : Dev nD) (q : ℕ → S1024x1280.Idx → F .fp8e4m3) (s : ℕ → S1x1024.Idx → F .f32) (h : ℕ)
    (QO : Memref sig .tc .vmem S2048x1280 .fp8e4m3) (SO : Memref sig .tc .vmem S1x1x2048 .f32)
    (fQO : Bf (F := F) c QO) (fSO : Bf (F := F) c SO) : Prop where
  q : ∀ y : S2048x1280.Idx, (y 0).val < 1024 * h → QO.view.read (Elt F) fQO y = qT q y
  s : ∀ y : S1x1x2048.Idx, (y 2).val < 1024 * h → SO.view.read (Elt F) fSO y = sT s y

/-- One tile's copies. -/
theorem copied_step (c : Dev nD) (q : ℕ → S1024x1280.Idx → F .fp8e4m3) (s : ℕ → S1x1024.Idx → F .f32)
    (QO : Memref sig .tc .vmem S2048x1280 .fp8e4m3) (SO : Memref sig .tc .vmem S1x1x2048 .f32) (h : ℕ) (hh : h < 2)
    (fQO : Bf (F := F) c QO) (fSO : Bf (F := F) c SO) (hd : Copied c q s h QO SO fQO fSO) :
    Copied c q s (h + 1) QO SO
      (QO.view.writes (Elt F) fQO [⟨Rect.unit (s := S2048x1280) ![1024 * h, 0] S1024x1280.size (inbQ hh), q h⟩])
      (SO.view.writes (Elt F) fSO [⟨Rect.unit (s := S1x1x2048) ![0, 0, 1024 * h] S1x1x1024.size (inbS hh),
        shapeCast S1x1x1024 (s h) shapeCasts_S1x1024_S1x1x1024⟩]) := by
  refine ⟨fun y hy => ?_, fun y hy => ?_⟩
  · by_cases hlt : (y 0).val < 1024 * h
    · rw [View.read_writes_cons_unit_of_not_mem _ _ _ _ _ y rfl 0 (.inl hlt)]
      exact hd.q y hlt
    · have e0 : (y 0).val / 1024 = h := by omega
      refine (View.read_writes_cons_unit_of_mem QO.view fQO (inbQ hh) (q h) [] y
        (ix2 ⟨(y 0).val % 1024, Nat.mod_lt _ (by decide)⟩ (y 1)) rfl
        (Fin.forall_fin_two.mpr ⟨by show (y 0).val = 1024 * h + (y 0).val % 1024; omega, by show (y 1).val = 0 + (y 1).val; omega⟩)).trans ?_
      unfold qT; rw [e0]
  · by_cases hlt : (y 2).val < 1024 * h
    · rw [View.read_writes_cons_unit_of_not_mem _ _ _ _ _ y rfl 2 (.inl hlt)]
      exact hd.s y hlt
    · have e0 : (y 2).val / 1024 = h := by omega
      have h0 : (y 0).val < 1 := (y 0).isLt
      have h1 : (y 1).val < 1 := (y 1).isLt
      refine (View.read_writes_cons_unit_of_mem SO.view fSO (inbS hh) (shapeCast S1x1x1024 (s h) shapeCasts_S1x1024_S1x1x1024) [] y
        (ix3 0 0 ⟨(y 2).val % 1024, Nat.mod_lt _ (by decide)⟩) rfl
        (fun a => match a with
          | ⟨0, _⟩ => by show (y 0).val = 0 + 0; omega
          | ⟨1, _⟩ => by show (y 1).val = 0 + 0; omega
          | ⟨2, _⟩ => by show (y 2).val = 1024 * h + (y 2).val % 1024; omega)).trans ?_
      unfold sT; rw [e0]
      simp only [pointwise]

/-- The copy of a tile's codes and scales. -/
theorem copyOut_spec (c : Dev nD) (q : ℕ → S1024x1280.Idx → F .fp8e4m3) (s : ℕ → S1x1024.Idx → F .f32)
    (Q : Memref sig .tc .vmem S1024x1280 .fp8e4m3) (S : Memref sig .tc .vmem S1x1024 .f32)
    (QO : Memref sig .tc .vmem S2048x1280 .fp8e4m3) (hQO : QO.IsWhole) (SO : Memref sig .tc .vmem S1x1x2048 .f32) (h : ℕ) (hh : h < 2)
    (fQ : Bf (F := F) c Q) (fS : Bf (F := F) c S) (fQO : Bf (F := F) c QO) (fSO : Bf (F := F) c SO)
    (hq : Q.view.read (Elt F) fQ = q h) (hs : S.view.read (Elt F) fS = s h) (hd : Copied c q s h QO SO fQO fSO)
    (E : Set ℕ) (Φ : PUnit → Res F) :
    iprop(pt c Q fQ ∗ pt c S fS ∗ wn c QO fQO ∗ wn c SO fSO ∗ (∀ fQO' fSO', ⌜Copied c q s (h + 1) QO SO fQO' fSO'⌝ -∗
        iprop(pt c Q fQ ∗ pt c S fS ∗ wn c QO fQO' ∗ wn c SO fSO') -∗ Φ ⟨⟩))
      ⊢ wp frame (wpE (defs₀ (F := F)) Variants.none c none) E (copyOut Q S QO hQO SO h hh) Φ := by
  iintro ⟨H1, H2, H3, H4, Hk⟩
  have e1 : View.readAt (Elt F) Q.view (Rect.unit (s := S1024x1280) ![0, 0] S1024x1280.size inb_S1024x1280_S1024x1280_0_0).toLoadRect fQ = q h :=
    (View.readAt_full Q.view fQ inb_S1024x1280_S1024x1280_0_0).trans hq
  have e2 : View.readAt (Elt F) S.view (Rect.unit (s := S1x1024) ![0, 0] S1x1024.size inb_S1x1024_S1x1024_0_0).toLoadRect fS = s h :=
    (View.readAt_full S.view fS inb_S1x1024_S1x1024_0_0).trans hs
  unfold copyOut
  sl_exec!
  sl_step
  iapply Hk $$ [] [H1 H2 H3 H4]
  · ipureintro
    exact copied_step c q s QO SO h hh fQO fSO hd
  isplitl [H1]; · iexact H1
  isplitl [H2]; · iexact H2
  isplitl [H3]; · iexact H3
  iexact H4

end Cert.KernelIdeal.Body

end
-- ==== Proof.IdealBody.lean ====
/-
  The triple of the idealized kernel's body: the blocks it leaves in the results and what it keeps for the next point.
-/
module

public import proofs.«01_k».proof.Proof.IdealConv

@[expose] public section

set_option maxRecDepth 16384

noncomputable section

namespace Cert.KernelIdeal.Body

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The first of two, and the second. -/
def two {α : Type} (a b : α) : ℕ → α
  | 0 => a
  | _ => b

theorem select_false {α : Type} (a b : α) : Scalar.select 0#1 a b = b := rfl
theorem select_true {α : Type} (a b : α) : Scalar.select 1#1 a b = a := rfl

set_option maxHeartbeats 1000000 in
/-- The body after its first-point step: what it leaves, from what the scratch buffers hold of the tile before. -/
theorem rest_spec (c : Dev nD) (i : grid0.Coords)
    (M1 : Memref sig .tc .vmem S1024x1280 .bf16) (h1 : M1.IsWhole) (M2 : Memref sig .tc .vmem S1024x1280 .bf16) (h2 : M2.IsWhole) (M3 : Memref sig .tc .vmem S1024x1280 .bf16) (h3 : M3.IsWhole) (M4 : Memref sig .tc .vmem S3840x3072 .fp8e4m3) (h4 : M4.IsWhole)
     (M5 : Memref sig .tc .vmem S1x3072 .f32) (h5 : M5.IsWhole) (M6 : Memref sig .tc .vmem S1x3072 .f32) (h6 : M6.IsWhole) (M7 : Memref sig .tc .vmem S1024x3072 .bf16) (h7 : M7.IsWhole) (M8 : Memref sig .tc .vmem S2048x1280 .fp8e4m3) (h8 : M8.IsWhole)
     (M9 : Memref sig .tc .vmem S1x1x2048 .f32) (h9 : M9.IsWhole) (M10 : Memref sig .tc .vmem S512x3840 .bf16) (h10 : M10.IsWhole) (M11 : Memref sig .tc .vmem S512x3840 .bf16) (h11 : M11.IsWhole) (M12 : Memref sig .tc .vmem S1024x1280 .fp8e4m3) (h12 : M12.IsWhole)
     (M13 : Memref sig .tc .vmem S1024x1280 .fp8e4m3) (h13 : M13.IsWhole) (M14 : Memref sig .tc .vmem S1x1024 .f32) (h14 : M14.IsWhole) (M15 : Memref sig .tc .vmem S1x1024 .f32) (h15 : M15.IsWhole) (M16 : Memref sig .tc .vmem S8x1280 .f32) (h16 : M16.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16)
    (x₁ x₂ : S1024x1280.Idx → F .bf16) (w₀ : S3840x3072.Idx → F .fp8e4m3) (ws₀ b₀ : S1x3072.Idx → F .f32)
    (l₀ : FVec F S512x3840 .bf16) (q₀ : S1024x1280.Idx → F .fp8e4m3) (s₀ : S1x1024.Idx → F .f32) (r₀ : FVec F S1x1280 .f32)
    (e2 : M2.view.read (Elt F) f2 = x₁) (e3 : M3.view.read (Elt F) f3 = x₂) (e4 : M4.view.read (Elt F) f4 = w₀)
    (e5 : M5.view.read (Elt F) f5 = ws₀) (e6 : M6.view.read (Elt F) f6 = b₀)
    (e10 : M10.view.read (Elt F) f10 = l₀) (e12 : M12.view.read (Elt F) f12 = q₀) (e14 : M14.view.read (Elt F) f14 = s₀) (e16 : crow c M16 f16 = r₀)
    (E : Set ℕ) (Φ : PUnit → Res F) :
    iprop(wn c M1 f1 ∗ wn c M2 f2 ∗ wn c M3 f3 ∗ wn c M4 f4 ∗ wn c M5 f5 ∗ wn c M6 f6 ∗ wn c M7 f7 ∗ wn c M8 f8 ∗ wn c M9 f9 ∗ pt c M10 f10 ∗ pt c M11 f11 ∗ pt c M12 f12 ∗ pt c M13 f13 ∗ pt c M14 f14 ∗ pt c M15 f15 ∗ pt c M16 f16
        ∗ (∀ g7 g8 g9 g10 g11 g12 g13 g14 g15 g16, ⌜M7.view.read (Elt F) g7 = yT (two l₀ (lhsT r₀ x₁)) w₀ ws₀ b₀ ∧ M8.view.read (Elt F) g8 = qT (two q₀ (codesT x₁))
            ∧ M9.view.read (Elt F) g9 = sT (two s₀ (scaleT x₁))
            ∧ M10.view.read (Elt F) g10 = lhsT (Scalar.select (begins i) (broadcast S1x1280 (Scalar.ofBits .f32 0x00000000#32)) (lastOdd (blk x₁ 7))) x₂
            ∧ M12.view.read (Elt F) g12 = codesT x₂ ∧ M14.view.read (Elt F) g14 = scaleT x₂ ∧ crow c M16 g16 = lastOdd (blk x₂ 7)⌝ -∗
          iprop(wn c M1 f1 ∗ wn c M2 f2 ∗ wn c M3 f3 ∗ wn c M4 f4 ∗ wn c M5 f5 ∗ wn c M6 f6 ∗ wn c M7 g7 ∗ wn c M8 g8 ∗ wn c M9 g9 ∗ pt c M10 g10 ∗ pt c M11 g11 ∗ pt c M12 g12 ∗ pt c M13 g13 ∗ pt c M14 g14 ∗ pt c M15 g15 ∗ pt c M16 g16) -∗ Φ ⟨⟩))
      ⊢ wp frame (wpE (defs₀ (F := F)) Variants.none c none) E
          (rest i M1 h1 M2 h2 M3 h3 M4 h4 M5 h5 M6 h6 M7 h7 M8 h8 M9 h9 M10 h10 M11 h11 M12 h12 M13 h13 M14 h14 M15 h15 M16 h16) Φ := by
  iintro ⟨H1, H2, H3, H4, H5, H6, H7, H8, H9, H10, H11, H12, H13, H14, H15, H16, Hk⟩
  unfold rest
  have hc0 : Copied c (two q₀ (codesT x₁)) (two s₀ (scaleT x₁)) 0 M8 M9 f8 f9 := ⟨fun y h => absurd h (by omega), fun y h => absurd h (by omega)⟩
  rw [wp_bind]
  iapply (copyOut_spec c (two q₀ (codesT x₁)) (two s₀ (scaleT x₁)) M12 M14 M8 h8 M9 0 _ f12 f14 f8 f9 e12 e14 hc0 E _)
  isplitl [H12]; · iexact H12
  isplitl [H14]; · iexact H14
  isplitl [H8]; · iexact H8
  isplitl [H9]; · iexact H9
  iintro %u8 %u9 %hc1 ⟨H12, H14, H8, H9⟩
  rw [wp_bind]
  iapply (quantise_spec c M2 x₁ r₀ M13 h13 M15 h15 M11 h11 M16 h16 _ f2 e2 f13 f15 f11 f16 ((select_false _ _).trans e16) E _)
  isplitl [H2]; · iexact H2
  isplitl [H13]; · iexact H13
  isplitl [H15]; · iexact H15
  isplitl [H11]; · iexact H11
  isplitl [H16]; · iexact H16
  iintro %u13 %u15 %u11 %u16 %hq1 ⟨H2, H13, H15, H11, H16⟩
  obtain ⟨e13, e15, e11, e16'⟩ := hq1
  have hf0 : Filled c (yT (two l₀ (lhsT r₀ x₁)) w₀ ws₀ b₀) 0 0 M7 f7 := fun y h => absurd h (by omega)
  rw [wp_bind]
  iapply (conv_spec c (two l₀ (lhsT r₀ x₁)) M10 M4 M5 M6 M7 h7 0 _ w₀ ws₀ b₀ f10 f4 f5 f6 f7 e10 e4 e5 e6 hf0 E _)
  isplitl [H10]; · iexact H10
  isplitl [H4]; · iexact H4
  isplitl [H5]; · iexact H5
  isplitl [H6]; · iexact H6
  isplitl [H7]; · iexact H7
  iintro %u7 %hf1 ⟨H10, H4, H5, H6, H7⟩
  rw [wp_bind]
  iapply (copyOut_spec c (two q₀ (codesT x₁)) (two s₀ (scaleT x₁)) M13 M15 M8 h8 M9 1 _ u13 u15 u8 u9 e13 e15 hc1 E _)
  isplitl [H13]; · iexact H13
  isplitl [H15]; · iexact H15
  isplitl [H8]; · iexact H8
  isplitl [H9]; · iexact H9
  iintro %v8 %v9 %hc2 ⟨H13, H15, H8, H9⟩
  rw [wp_bind]
  iapply (quantise_spec c M3 x₂ _ M12 h12 M14 h14 M10 h10 M16 h16 _ f3 e3 f12 f14 f10 u16 (by rw [e16']) E _)
  isplitl [H3]; · iexact H3
  isplitl [H12]; · iexact H12
  isplitl [H14]; · iexact H14
  isplitl [H10]; · iexact H10
  isplitl [H16]; · iexact H16
  iintro %v12 %v14 %v10 %v16 %hq2 ⟨H3, H12, H14, H10, H16⟩
  iapply (conv_spec c (two l₀ (lhsT r₀ x₁)) M11 M4 M5 M6 M7 h7 1 _ w₀ ws₀ b₀ u11 f4 f5 f6 u7 e11 e4 e5 e6 hf1 E _)
  isplitl [H11]; · iexact H11
  isplitl [H4]; · iexact H4
  isplitl [H5]; · iexact H5
  isplitl [H6]; · iexact H6
  isplitl [H7]; · iexact H7
  iintro %v7 %hf2 ⟨H11, H4, H5, H6, H7⟩
  obtain ⟨e12', e14', e10', e16''⟩ := hq2
  iapply Hk $$ %v7 %v8 %v9 %v10 %u11 %v12 %u13 %v14 %u15 %v16 [] [H1 H2 H3 H4 H5 H6 H7 H8 H9 H10 H11 H12 H13 H14 H15 H16]
  · ipureintro
    refine ⟨funext fun y => hf2 y (by have h0 : (y 0).val < 1024 := (y 0).isLt; omega),
      funext fun y => hc2.q y (by have h0 : (y 0).val < 2048 := (y 0).isLt; omega),
      funext fun y => hc2.s y (by have h0 : (y 2).val < 2048 := (y 2).isLt; omega), e10', e12', e14', e16''⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 1000000 in
/-- The body at any grid point. -/
theorem body_spec (c : Dev nD) (i : grid0.Coords)
    (M1 : Memref sig .tc .vmem S1024x1280 .bf16) (h1 : M1.IsWhole) (M2 : Memref sig .tc .vmem S1024x1280 .bf16) (h2 : M2.IsWhole) (M3 : Memref sig .tc .vmem S1024x1280 .bf16) (h3 : M3.IsWhole) (M4 : Memref sig .tc .vmem S3840x3072 .fp8e4m3) (h4 : M4.IsWhole)
     (M5 : Memref sig .tc .vmem S1x3072 .f32) (h5 : M5.IsWhole) (M6 : Memref sig .tc .vmem S1x3072 .f32) (h6 : M6.IsWhole) (M7 : Memref sig .tc .vmem S1024x3072 .bf16) (h7 : M7.IsWhole) (M8 : Memref sig .tc .vmem S2048x1280 .fp8e4m3) (h8 : M8.IsWhole)
     (M9 : Memref sig .tc .vmem S1x1x2048 .f32) (h9 : M9.IsWhole) (M10 : Memref sig .tc .vmem S512x3840 .bf16) (h10 : M10.IsWhole) (M11 : Memref sig .tc .vmem S512x3840 .bf16) (h11 : M11.IsWhole) (M12 : Memref sig .tc .vmem S1024x1280 .fp8e4m3) (h12 : M12.IsWhole)
     (M13 : Memref sig .tc .vmem S1024x1280 .fp8e4m3) (h13 : M13.IsWhole) (M14 : Memref sig .tc .vmem S1x1024 .f32) (h14 : M14.IsWhole) (M15 : Memref sig .tc .vmem S1x1024 .f32) (h15 : M15.IsWhole) (M16 : Memref sig .tc .vmem S8x1280 .f32) (h16 : M16.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16)
    (x₀ : S1024x1280.Idx → F .bf16) (x₁ x₂ : S1024x1280.Idx → F .bf16) (w₀ : S3840x3072.Idx → F .fp8e4m3) (ws₀ b₀ : S1x3072.Idx → F .f32)
    (l₀ : FVec F S512x3840 .bf16) (q₀ : S1024x1280.Idx → F .fp8e4m3) (s₀ : S1x1024.Idx → F .f32) (r₀ : FVec F S1x1280 .f32)
    (e2 : M2.view.read (Elt F) f2 = x₁) (e3 : M3.view.read (Elt F) f3 = x₂) (e4 : M4.view.read (Elt F) f4 = w₀)
    (e5 : M5.view.read (Elt F) f5 = ws₀) (e6 : M6.view.read (Elt F) f6 = b₀)
    (e1 : M1.view.read (Elt F) f1 = x₀)
    (hfirst : isFirst i = 1#1 → l₀ = lhsT (broadcast S1x1280 (Scalar.ofBits .f32 0x00000000#32)) x₀ ∧ q₀ = codesT x₀ ∧ s₀ = scaleT x₀ ∧ r₀ = lastOdd (blk x₀ 7))
    (hlater : ¬ isFirst i = 1#1 → M10.view.read (Elt F) f10 = l₀ ∧ M12.view.read (Elt F) f12 = q₀ ∧ M14.view.read (Elt F) f14 = s₀ ∧ crow c M16 f16 = r₀)
    (E : Set ℕ) (Φ : PUnit → Res F) :
    iprop(wn c M1 f1 ∗ wn c M2 f2 ∗ wn c M3 f3 ∗ wn c M4 f4 ∗ wn c M5 f5 ∗ wn c M6 f6 ∗ wn c M7 f7 ∗ wn c M8 f8 ∗ wn c M9 f9 ∗ pt c M10 f10 ∗ pt c M11 f11 ∗ pt c M12 f12 ∗ pt c M13 f13 ∗ pt c M14 f14 ∗ pt c M15 f15 ∗ pt c M16 f16
        ∗ (∀ g7 g8 g9 g10 g11 g12 g13 g14 g15 g16, ⌜M7.view.read (Elt F) g7 = yT (two l₀ (lhsT r₀ x₁)) w₀ ws₀ b₀ ∧ M8.view.read (Elt F) g8 = qT (two q₀ (codesT x₁))
            ∧ M9.view.read (Elt F) g9 = sT (two s₀ (scaleT x₁))
            ∧ M10.view.read (Elt F) g10 = lhsT (Scalar.select (begins i) (broadcast S1x1280 (Scalar.ofBits .f32 0x00000000#32)) (lastOdd (blk x₁ 7))) x₂
            ∧ M12.view.read (Elt F) g12 = codesT x₂ ∧ M14.view.read (Elt F) g14 = scaleT x₂ ∧ crow c M16 g16 = lastOdd (blk x₂ 7)⌝ -∗
          iprop(wn c M1 f1 ∗ wn c M2 f2 ∗ wn c M3 f3 ∗ wn c M4 f4 ∗ wn c M5 f5 ∗ wn c M6 f6 ∗ wn c M7 g7 ∗ wn c M8 g8 ∗ wn c M9 g9 ∗ pt c M10 g10 ∗ pt c M11 g11 ∗ pt c M12 g12 ∗ pt c M13 g13 ∗ pt c M14 g14 ∗ pt c M15 g15 ∗ pt c M16 g16) -∗ Φ ⟨⟩))
      ⊢ wp frame (wpE (defs₀ (F := F)) Variants.none c none) E
          (cc0_conv_gelu i M1 h1 M2 h2 M3 h3 M4 h4 M5 h5 M6 h6 M7 h7 M8 h8 M9 h9 M10 h10 M11 h11 M12 h12 M13 h13 M14 h14 M15 h15 M16 h16) Φ := by
  by_cases hi : isFirst i = 1#1
  · obtain ⟨rfl, rfl, rfl, rfl⟩ := hfirst hi
    rw [body_first i M1 h1 M2 h2 M3 h3 M4 h4 M5 h5 M6 h6 M7 h7 M8 h8 M9 h9 M10 h10 M11 h11 M12 h12 M13 h13 M14 h14 M15 h15 M16 h16 hi, wp_bind]
    iintro ⟨H1, H2, H3, H4, H5, H6, H7, H8, H9, H10, H11, H12, H13, H14, H15, H16, Hk⟩
    iapply (quantise_spec c M1 x₀ (broadcast S1x1280 (Scalar.ofBits .f32 0x00000000#32)) M12 h12 M14 h14 M10 h10 M16 h16 _ f1 e1 f12 f14 f10 f16 (select_true _ _) E _)
    isplitl [H1]; · iexact H1
    isplitl [H12]; · iexact H12
    isplitl [H14]; · iexact H14
    isplitl [H10]; · iexact H10
    isplitl [H16]; · iexact H16
    iintro %u12 %u14 %u10 %u16 %hq ⟨H1, H12, H14, H10, H16⟩
    iapply (rest_spec c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 u10 f11 u12 f13 u14 f15 u16 x₁ x₂ w₀ ws₀ b₀ _ _ _ _ e2 e3 e4 e5 e6 hq.2.2.1 hq.1 hq.2.1 hq.2.2.2 E _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact Hk
  · obtain ⟨e10, e12, e14, e16⟩ := hlater hi
    rw [body_later i M1 h1 M2 h2 M3 h3 M4 h4 M5 h5 M6 h6 M7 h7 M8 h8 M9 h9 M10 h10 M11 h11 M12 h12 M13 h13 M14 h14 M15 h15 M16 h16 hi]
    exact rest_spec c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 x₁ x₂ w₀ ws₀ b₀ l₀ q₀ s₀ r₀ e2 e3 e4 e5 e6 e10 e12 e14 e16 E Φ

end Cert.KernelIdeal.Body

end
-- ==== Proof.IdealArr.lean ====
/-
  The arrays the idealized kernel reads, tile by tile, and the three arrays it is to leave, each as one function of them.
-/
module

public import proofs.«01_k».proof.Proof.IdealBody

@[expose] public section

set_option maxRecDepth 16384

noncomputable section

namespace Cert.KernelIdeal.Body

open Cert.KernelIdeal Cert.KernelIdeal.Gen Cert.KernelIdeal.Run
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- Tile `j` of the frames. -/
def tile (A : S8192x1280.Idx → F .bf16) (j : ℕ) : S1024x1280.Idx → F .bf16 := fun y =>
  A (ix2 ⟨(1024 * j + (y 0).val) % 8192, Nat.mod_lt _ (by decide)⟩ (y 1))

/-- The row of zeros. -/
def zeroRow : FVec F S1x1280 .f32 := broadcast S1x1280 (Scalar.ofBits .f32 0x00000000#32)

/-- The odd row before tile `j`: zeros where a batch begins. -/
def before (A : S8192x1280.Idx → F .bf16) (j : ℕ) : FVec F S1x1280 .f32 :=
  if j % 4 = 0 then zeroRow else lastOdd (blk (tile A (j - 1)) 7)

/-- The left operand of tile `j`. -/
def lhsA (A : S8192x1280.Idx → F .bf16) (j : ℕ) : FVec F S512x3840 .bf16 := lhsT (before A j) (tile A j)

/-- The first result's array. -/
def outY (A : S8192x1280.Idx → F .bf16) (w : S3840x3072.Idx → F .fp8e4m3) (ws b : S1x3072.Idx → F .f32) : S4096x3072.Idx → F .bf16 := fun y =>
  block (lhsA A ((y 0).val / 512)) (wCols w ((y 1).val / 512)) (bCols ws ((y 1).val / 512)) (bCols b ((y 1).val / 512))
    (ix2 ⟨(y 0).val % 512, Nat.mod_lt _ (by decide)⟩ ⟨(y 1).val % 512, Nat.mod_lt _ (by decide)⟩)

/-- The second result's array. -/
def outQ (A : S8192x1280.Idx → F .bf16) : S8192x1280.Idx → F .fp8e4m3 := fun y =>
  codesT (tile A ((y 0).val / 1024)) (ix2 ⟨(y 0).val % 1024, Nat.mod_lt _ (by decide)⟩ (y 1))

/-- The third result's array. -/
def outS (A : S8192x1280.Idx → F .bf16) : S4x1x2048.Idx → F .f32 := fun y =>
  scaleT (tile A (2 * (y 0).val + (y 2).val / 1024)) (ix2 0 ⟨(y 2).val % 1024, Nat.mod_lt _ (by decide)⟩)

variable (m : (ℓ : Loc nD τ sig) → Buf (Elt F) ℓ)

/-- The frames as the kernel finds them. -/
def A₀ (c : Dev nD) : S8192x1280.Idx → F .bf16 := V m c main_v0
/-- The weights' codes as the kernel finds them. -/
def W₀ (c : Dev nD) : S3840x3072.Idx → F .fp8e4m3 := V m c main_arg1
/-- The weights' scales as the kernel finds them. -/
def WS₀ (c : Dev nD) : S1x3072.Idx → F .f32 := V m c main_v1
/-- The bias as the kernel finds it. -/
def B₀ (c : Dev nD) : S1x3072.Idx → F .f32 := V m c main_v2

theorem index0 : ∀ t : Fin grid0.N, win0_0.index t 0 = 0 ∧ win0_0.index t 1 = 0 := by decide +kernel
theorem index1 : ∀ t : Fin grid0.N, win0_1.index t 0 = 2 * t.val + 1 ∧ win0_1.index t 1 = 0 := by decide +kernel
theorem index2 : ∀ t : Fin grid0.N, win0_2.index t 0 = min (2 * t.val + 2) 7 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 ∧ win0_8.index t 2 = 0 := by decide +kernel
theorem isFirst_iff : ∀ t : Fin grid0.N, isFirst (grid0.coords t) = 1#1 ↔ t.val = 0 := by decide +kernel
theorem begins_eq : ∀ t : Fin grid0.N, begins (grid0.coords t) = if (2 * t.val + 2) % 4 = 0 then 1#1 else 0#1 := by decide +kernel

theorem iblk0 (c : Dev nD) (t : Fin cfg0.N) : (iblk m c 0 t : S1024x1280.Idx → F .bf16) = tile (A₀ m c) 0 := by
  funext y
  refine congrArg (A₀ m c) (funext fun a => Fin.ext ?_)
  have h0 : (y 0).val < 1024 := (y 0).isLt
  match a with
  | ⟨0, _⟩ => refine (win0_0.rect_emb_val t y 0).trans ?_; rw [(index0 t).1]; show 0 * 1024 + (y 0).val = (1024 * 0 + (y 0).val) % 8192; omega
  | ⟨1, _⟩ => refine (win0_0.rect_emb_val t y 1).trans ?_; rw [(index0 t).2]; show 0 * 1280 + (y 1).val = (y 1).val; omega

theorem iblk1 (c : Dev nD) (t : Fin cfg0.N) : (iblk m c 1 t : S1024x1280.Idx → F .bf16) = tile (A₀ m c) (2 * t.val + 1) := by
  funext y
  refine congrArg (A₀ m c) (funext fun a => Fin.ext ?_)
  have h0 : (y 0).val < 1024 := (y 0).isLt
  have ht : t.val < 4 := t.isLt
  match a with
  | ⟨0, _⟩ => refine (win0_1.rect_emb_val t y 0).trans ?_; rw [(index1 t).1]; show (2 * t.val + 1) * 1024 + (y 0).val = (1024 * (2 * t.val + 1) + (y 0).val) % 8192; omega
  | ⟨1, _⟩ => refine (win0_1.rect_emb_val t y 1).trans ?_; rw [(index1 t).2]; show 0 * 1280 + (y 1).val = (y 1).val; omega

theorem iblk2 (c : Dev nD) (t : Fin cfg0.N) : (iblk m c 2 t : S1024x1280.Idx → F .bf16) = tile (A₀ m c) (min (2 * t.val + 2) 7) := by
  funext y
  refine congrArg (A₀ m c) (funext fun a => Fin.ext ?_)
  have h0 : (y 0).val < 1024 := (y 0).isLt
  have ht : t.val < 4 := t.isLt
  match a with
  | ⟨0, _⟩ => refine (win0_2.rect_emb_val t y 0).trans ?_; rw [(index2 t).1]; show (min (2 * t.val + 2) 7) * 1024 + (y 0).val = (1024 * (min (2 * t.val + 2) 7) + (y 0).val) % 8192; omega
  | ⟨1, _⟩ => refine (win0_2.rect_emb_val t y 1).trans ?_; rw [(index2 t).2]; show 0 * 1280 + (y 1).val = (y 1).val; omega

theorem iblk3 (c : Dev nD) (t : Fin cfg0.N) : (iblk m c 3 t : S3840x3072.Idx → F .fp8e4m3) = W₀ m c := by
  funext y
  refine congrArg (W₀ m c) (funext fun a => Fin.ext ?_)
  match a with
  | ⟨0, _⟩ => refine (win0_3.rect_emb_val t y 0).trans ?_; rw [(index3 t).1]; show 0 * 3840 + (y 0).val = (y 0).val; omega
  | ⟨1, _⟩ => refine (win0_3.rect_emb_val t y 1).trans ?_; rw [(index3 t).2]; show 0 * 3072 + (y 1).val = (y 1).val; omega

theorem iblk4 (c : Dev nD) (t : Fin cfg0.N) : (iblk m c 4 t : S1x3072.Idx → F .f32) = WS₀ m c := by
  funext y
  refine congrArg (WS₀ m c) (funext fun a => Fin.ext ?_)
  match a with
  | ⟨0, _⟩ => refine (win0_4.rect_emb_val t y 0).trans ?_; rw [(index4 t).1]; show 0 * 1 + (y 0).val = (y 0).val; omega
  | ⟨1, _⟩ => refine (win0_4.rect_emb_val t y 1).trans ?_; rw [(index4 t).2]; show 0 * 3072 + (y 1).val = (y 1).val; omega

theorem iblk5 (c : Dev nD) (t : Fin cfg0.N) : (iblk m c 5 t : S1x3072.Idx → F .f32) = B₀ m c := by
  funext y
  refine congrArg (B₀ m c) (funext fun a => Fin.ext ?_)
  match a with
  | ⟨0, _⟩ => refine (win0_5.rect_emb_val t y 0).trans ?_; rw [(index5 t).1]; show 0 * 1 + (y 0).val = (y 0).val; omega
  | ⟨1, _⟩ => refine (win0_5.rect_emb_val t y 1).trans ?_; rw [(index5 t).2]; show 0 * 3072 + (y 1).val = (y 1).val; omega

/-- What the body leaves in the first result's block at point `t`. -/
def blkY (c : Dev nD) (t : Fin cfg0.N) : S1024x3072.Idx → F .bf16 :=
  yT (two (lhsA (A₀ m c) (2 * t.val)) (lhsA (A₀ m c) (2 * t.val + 1))) (W₀ m c) (WS₀ m c) (B₀ m c)
/-- What it leaves in the second's. -/
def blkQ (c : Dev nD) (t : Fin cfg0.N) : S2048x1280.Idx → F .fp8e4m3 :=
  qT (two (codesT (tile (A₀ m c) (2 * t.val))) (codesT (tile (A₀ m c) (2 * t.val + 1))))
/-- What it leaves in the third's. -/
def blkS (c : Dev nD) (t : Fin cfg0.N) : S1x1x2048.Idx → F .f32 :=
  sT (two (scaleT (tile (A₀ m c) (2 * t.val))) (scaleT (tile (A₀ m c) (2 * t.val + 1))))

theorem two_div {α : Type} (f : ℕ → α) (t k : ℕ) (hk : k < 2) : two (f (2 * t)) (f (2 * t + 1)) k = f (2 * t + k) := by
  match k, hk with
  | 0, _ => rfl
  | 1, _ => rfl

theorem blkY_eq (c : Dev nD) (t : Fin cfg0.N) :
    blkY m c t = ((cfg0.win 6).blk t).view.read (Elt F) (outY (A₀ m c) (W₀ m c) (WS₀ m c) (B₀ m c)) := by
  funext y
  have h0 : (y 0).val < 1024 := (y 0).isLt
  have ht : t.val < 4 := t.isLt
  have e : (win0_6.rect t).emb y = ix2 (n0 := 4096) (n1 := 3072) ⟨t.val * 1024 + (y 0).val, by omega⟩ (y 1) := funext fun a => Fin.ext (by
    match a with
    | ⟨0, _⟩ => refine (win0_6.rect_emb_val t y 0).trans ?_; rw [(index6 t).1]; rfl
    | ⟨1, _⟩ => refine (win0_6.rect_emb_val t y 1).trans ?_; rw [(index6 t).2]; show 0 * 3072 + (y 1).val = (y 1).val; omega)
  refine Eq.trans ?_ (congrArg (outY (A₀ m c) (W₀ m c) (WS₀ m c) (B₀ m c)) e).symm
  unfold blkY yT outY
  rw [two_div (lhsA (A₀ m c)) t.val _ (by omega)]
  have k : 2 * t.val + (y 0).val / 512 = (t.val * 1024 + (y 0).val) / 512 := by omega
  have k' : (y 0).val % 512 = (t.val * 1024 + (y 0).val) % 512 := by omega
  exact congrArg₂ (fun j r => block (lhsA (A₀ m c) j) (wCols (W₀ m c) ((y 1).val / 512)) (bCols (WS₀ m c) ((y 1).val / 512)) (bCols (B₀ m c) ((y 1).val / 512))
    (ix2 r ⟨(y 1).val % 512, Nat.mod_lt _ (by decide)⟩)) k (Fin.ext k')

theorem blkQ_eq (c : Dev nD) (t : Fin cfg0.N) :
    blkQ m c t = ((cfg0.win 7).blk t).view.read (Elt F) (outQ (A₀ m c)) := by
  funext y
  have h0 : (y 0).val < 2048 := (y 0).isLt
  have ht : t.val < 4 := t.isLt
  have e : (win0_7.rect t).emb y = ix2 (n0 := 8192) (n1 := 1280) ⟨t.val * 2048 + (y 0).val, by omega⟩ (y 1) := funext fun a => Fin.ext (by
    match a with
    | ⟨0, _⟩ => refine (win0_7.rect_emb_val t y 0).trans ?_; rw [(index7 t).1]; rfl
    | ⟨1, _⟩ => refine (win0_7.rect_emb_val t y 1).trans ?_; rw [(index7 t).2]; show 0 * 1280 + (y 1).val = (y 1).val; omega)
  refine Eq.trans ?_ (congrArg (outQ (A₀ m c)) e).symm
  unfold blkQ qT outQ
  rw [two_div (fun j => codesT (tile (A₀ m c) j)) t.val _ (by omega)]
  have k : 2 * t.val + (y 0).val / 1024 = (t.val * 2048 + (y 0).val) / 1024 := by omega
  have k' : (y 0).val % 1024 = (t.val * 2048 + (y 0).val) % 1024 := by omega
  exact congrArg₂ (fun j r => codesT (tile (A₀ m c) j) (ix2 r (y 1))) k (Fin.ext k')

theorem blkS_eq (c : Dev nD) (t : Fin cfg0.N) :
    blkS m c t = ((cfg0.win 8).blk t).view.read (Elt F) (outS (A₀ m c)) := by
  funext y
  have h0 : (y 0).val < 1 := (y 0).isLt
  have h1 : (y 1).val < 1 := (y 1).isLt
  have h2 : (y 2).val < 2048 := (y 2).isLt
  have ht : t.val < 4 := t.isLt
  have e : (win0_8.rect t).emb y = ix3 (n0 := 4) (n1 := 1) (n2 := 2048) ⟨t.val, ht⟩ 0 (y 2) := funext fun a => Fin.ext (by
    match a with
    | ⟨0, _⟩ => refine (win0_8.rect_emb_val t y 0).trans ?_; rw [(index8 t).1]; show t.val * 1 + (y 0).val = t.val; omega
    | ⟨1, _⟩ => refine (win0_8.rect_emb_val t y 1).trans ?_; rw [(index8 t).2.1]; show 0 * 1 + (y 1).val = 0; omega
    | ⟨2, _⟩ => refine (win0_8.rect_emb_val t y 2).trans ?_; rw [(index8 t).2.2]; show 0 * 2048 + (y 2).val = (y 2).val; omega)
  refine Eq.trans ?_ (congrArg (outS (A₀ m c)) e).symm
  unfold blkS sT outS
  rw [two_div (fun j => scaleT (tile (A₀ m c) j)) t.val _ (by omega)]
  rfl

end Cert.KernelIdeal.Body

end
-- ==== Proof.IdealRun.lean ====
/-
  The run of the idealized kernel: the grid carries tile `2i`'s left operand, codes, scales and last odd row from one
  point to the next, and the three results end as `outY`, `outQ` and `outS` of the frames.
-/
module

public import proofs.«01_k».proof.Proof.IdealArr

@[expose] public section

set_option maxRecDepth 16384

noncomputable section

namespace Cert.KernelIdeal.Body

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The scratch the kernel keeps, named as its operands. -/
abbrev C0 := Memref.whole (cc0_scratch0 : Ref sig .tc)
abbrev C1 := Memref.whole (cc0_scratch1 : Ref sig .tc)
abbrev C2 := Memref.whole (cc0_scratch2 : Ref sig .tc)
abbrev C3 := Memref.whole (cc0_scratch3 : Ref sig .tc)
abbrev C4 := Memref.whole (cc0_scratch4 : Ref sig .tc)
abbrev C5 := Memref.whole (cc0_scratch5 : Ref sig .tc)
abbrev C6 := Memref.whole (cc0_scratch6 : Ref sig .tc)

/-- What the scratch holds before point `k`, past the first: tile `2k`'s. -/
def Held (c : Dev nD) (k : ℕ) (f10 : Bf (F := F) c C0) (f12 : Bf (F := F) c C2) (f14 : Bf (F := F) c C4) (f16 : Bf (F := F) c C6) : Prop :=
  0 < k → k < 4 → C0.view.read (Elt F) f10 = lhsA (A₀ m c) (2 * k) ∧ C2.view.read (Elt F) f12 = codesT (tile (A₀ m c) (2 * k))
    ∧ C4.view.read (Elt F) f14 = scaleT (tile (A₀ m c) (2 * k)) ∧ crow c C6 f16 = lastOdd (blk (tile (A₀ m c) (2 * k)) 7)

/-- The scratch between two grid points. -/
def inv (c : Dev nD) (k : ℕ) : Res F :=
  iprop((∃ f10 f11 f12 f13 f14 f15 f16, ⌜Held m c k f10 f12 f14 f16⌝ ∗ pt c C0 f10 ∗ pt c C1 f11 ∗ pt c C2 f12 ∗ pt c C3 f13 ∗ pt c C4 f14 ∗ pt c C5 f15 ∗ pt c C6 f16)
    ∗ ∃ r, prngReg c r)

theorem inv_of_owns (c : Dev nD) : Pipeline.ΦA spec0 c ⊢ inv m c 0 := by
  unfold Pipeline.ΦA inv; rw [scopedRest0_eq]
  iintro ⟨⟨⟨%f10, H10⟩, ⟨%f11, H11⟩, ⟨%f12, H12⟩, ⟨%f13, H13⟩, ⟨%f14, H14⟩, ⟨%f15, H15⟩, ⟨%f16, H16⟩⟩, Hg⟩
  isplitr [Hg]; swap; · iexact Hg
  iexists f10, f11, f12, f13, f14, f15, f16
  isplitr; · ipureintro; exact fun h => absurd h (by decide)
  isplitl [H10]; · iexact H10
  isplitl [H11]; · iexact H11
  isplitl [H12]; · iexact H12
  isplitl [H13]; · iexact H13
  isplitl [H14]; · iexact H14
  isplitl [H15]; · iexact H15
  iexact H16

theorem owns_of_inv (c : Dev nD) (k : ℕ) : inv m c k ⊢ Pipeline.ΦA spec0 c := by
  unfold Pipeline.ΦA inv; rw [scopedRest0_eq]
  iintro ⟨⟨%f10, %f11, %f12, %f13, %f14, %f15, %f16, -, H10, H11, H12, H13, H14, H15, H16⟩, Hg⟩
  isplitr [Hg]; swap; · iexact Hg
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

/-- The proof data: each input window's buffer is left at its block, each result's at the tile pair's values. -/
def track (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blkY m c t
    | ⟨7, _⟩ => blkQ m c t
    | ⟨8, _⟩ => blkS m c t
  Φ k := inv m c k.val
  q w := Pipeline.shareOf spec0 w
  owed _ := 0

/-- What a point leaves in the scratch is what the next one is to find. -/
theorem held_succ (c : Dev nD) (t : Fin grid0.N) (g10 : Bf (F := F) c C0) (g12 : Bf (F := F) c C2) (g14 : Bf (F := F) c C4) (g16 : Bf (F := F) c C6)
    (h0 : C0.view.read (Elt F) g10 = lhsT (Scalar.select (begins (grid0.coords t)) (broadcast S1x1280 (Scalar.ofBits .f32 0x00000000#32)) (lastOdd (blk (tile (A₀ m c) (2 * t.val + 1)) 7))) (tile (A₀ m c) (min (2 * t.val + 2) 7)))
    (h2 : C2.view.read (Elt F) g12 = codesT (tile (A₀ m c) (min (2 * t.val + 2) 7))) (h4 : C4.view.read (Elt F) g14 = scaleT (tile (A₀ m c) (min (2 * t.val + 2) 7)))
    (h6 : crow c C6 g16 = lastOdd (blk (tile (A₀ m c) (min (2 * t.val + 2) 7)) 7)) : Held m c (t.val + 1) g10 g12 g14 g16 := by
  intro _ hk
  have e : min (2 * t.val + 2) 7 = 2 * (t.val + 1) := by omega
  rw [e] at h0 h2 h4 h6
  refine ⟨h0.trans ?_, h2, h4, h6⟩
  refine congrArg (fun p => lhsT p (tile (A₀ m c) (2 * (t.val + 1)))) ?_
  rw [begins_eq t, show 2 * t.val + 2 = 2 * (t.val + 1) from rfl]
  unfold before
  by_cases hb : (2 * (t.val + 1)) % 4 = 0
  · rw [if_pos hb, if_pos hb, select_true]; rfl
  · rw [if_neg hb, if_neg hb, select_false, show 2 * (t.val + 1) - 1 = 2 * t.val + 1 by omega]

/-- The odd row before the second tile of a point. -/
theorem lhsA_odd (A : S8192x1280.Idx → F .bf16) (t : ℕ) : lhsT (lastOdd (blk (tile A (2 * t)) 7)) (tile A (2 * t + 1)) = lhsA A (2 * t + 1) := by
  unfold lhsA before
  rw [if_neg (by omega)]
  rfl

theorem read_first (c : Dev nD) (t : Fin grid0.N) (h : isFirst (grid0.coords t) = 1#1) :
    lhsA (A₀ m c) (2 * t.val) = lhsT (broadcast S1x1280 (Scalar.ofBits .f32 0x00000000#32)) (tile (A₀ m c) 0)
    ∧ codesT (tile (A₀ m c) (2 * t.val)) = codesT (tile (A₀ m c) 0) ∧ scaleT (tile (A₀ m c) (2 * t.val)) = scaleT (tile (A₀ m c) 0)
    ∧ lastOdd (blk (tile (A₀ m c) (2 * t.val)) 7) = lastOdd (blk (tile (A₀ m c) 0) 7) := by
  rw [(isFirst_iff t).1 h]
  exact ⟨rfl, rfl, rfl, rfl⟩

theorem read_later (c : Dev nD) (t : Fin grid0.N) (f10 : Bf (F := F) c C0) (f12 : Bf (F := F) c C2) (f14 : Bf (F := F) c C4) (f16 : Bf (F := F) c C6)
    (hd : Held m c t.val f10 f12 f14 f16) (h : ¬ isFirst (grid0.coords t) = 1#1) :
    C0.view.read (Elt F) f10 = lhsA (A₀ m c) (2 * t.val) ∧ C2.view.read (Elt F) f12 = codesT (tile (A₀ m c) (2 * t.val))
    ∧ C4.view.read (Elt F) f14 = scaleT (tile (A₀ m c) (2 * t.val)) ∧ crow c C6 f16 = lastOdd (blk (tile (A₀ m c) (2 * t.val)) 7) :=
  hd (Nat.pos_of_ne_zero fun e => h ((isFirst_iff t).2 e)) t.isLt

set_option maxHeartbeats 4000000 in
/-- The body at every grid point. -/
theorem track_obligation (c : Dev nD) : BodyObligationLoose (track m 0 c) (defs₀ (F := F)) Variants.none () Set.univ := fun t => by
  rw [bigSep_W0, bigSep_W0]
  dsimp only
  rw [show (track m 0 c).Φ t.castSucc = inv m c t.val from rfl, show (track m 0 c).Φ t.succ = inv m c (t.val + 1) from rfl,
    show (track m 0 c).owesAt () t.succ = (track m 0 c).owesAt () t.castSucc from rfl]
  unfold inv owns
  iintro ⟨⟨⟨%f10, %f11, %f12, %f13, %f14, %f15, %f16, %hd, H10, H11, H12, H13, H14, H15, H16⟩, Hg⟩, Howes,
    ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩,
    ⟨%X7, %f7, -, H7⟩, ⟨%X8, %f8, -, H8⟩, ⟨%X9, %f9, -, H9⟩⟩
  rw [before0_0_of m (track m 0 c) rfl (fun _ => rfl)] at hf1; rw [before0_1_of m (track m 0 c) rfl (fun _ => rfl)] at hf2
  rw [before0_2_of m (track m 0 c) rfl (fun _ => rfl)] at hf3; rw [before0_3_of m (track m 0 c) rfl (fun _ => rfl)] at hf4
  rw [before0_4_of m (track m 0 c) rfl (fun _ => rfl)] at hf5; rw [before0_5_of m (track m 0 c) rfl (fun _ => rfl)] at hf6
  iapply (body_spec c (grid0.coords t) _ _ _ _ _ _ _ _ _ _ _ _ _ _ _ _ _ _ _ _ _ _ _ _ _ _ _ _ _ _ _ _ f1 f2 f3 f4 f5 f6 f7 f8 f9
    f10 f11 f12 f13 f14 f15 f16 (tile (A₀ m c) 0) (tile (A₀ m c) (2 * t.val + 1)) (tile (A₀ m c) (min (2 * t.val + 2) 7)) (W₀ m c) (WS₀ m c) (B₀ m c)
    (lhsA (A₀ m c) (2 * t.val)) (codesT (tile (A₀ m c) (2 * t.val))) (scaleT (tile (A₀ m c) (2 * t.val))) (lastOdd (blk (tile (A₀ m c) (2 * t.val)) 7))
    (hf2.trans (iblk1 m c t)) (hf3.trans (iblk2 m c t)) (hf4.trans (iblk3 m c t)) (hf5.trans (iblk4 m c t)) (hf6.trans (iblk5 m c t)) (hf1.trans (iblk0 m c t))
    (read_first m c t) (read_later m c t f10 f12 f14 f16 hd) Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro %g7 %g8 %g9 %g10 %g11 %g12 %g13 %g14 %g15 %g16 %hg ⟨H1, H2, H3, H4, H5, H6, H7, H8, H9, H10, H11, H12, H13, H14, H15, H16⟩
  isplitl [H10 H11 H12 H13 H14 H15 H16 Hg]
  · isplitr [Hg]; swap; · iexact Hg
    iexists g10, g11, g12, g13, g14, g15, g16
    isplitr; · ipureintro; exact held_succ m c t g10 g12 g14 g16 hg.2.2.2.1 hg.2.2.2.2.1 hg.2.2.2.2.2.1 hg.2.2.2.2.2.2
    isplitl [H10]; · iexact H10
    isplitl [H11]; · iexact H11
    isplitl [H12]; · iexact H12
    isplitl [H13]; · iexact H13
    isplitl [H14]; · iexact H14
    isplitl [H15]; · iexact H15
    iexact H16
  isplitl [Howes]; · iexact Howes
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  isplitl [H7]; · iexists g7; isplitr; swap; (· iexact H7); ipureintro; exact hg.1.trans (by rw [lhsA_odd]; rfl)
  isplitl [H8]; · iexists g8; isplitr; swap; (· iexact H8); ipureintro; exact hg.2.1
  iexists g9; isplitr; swap; (· iexact H9); ipureintro; exact hg.2.2.1

end Cert.KernelIdeal.Body

end
-- ==== Proof.IdealFinal.lean ====
/-
  What the idealized kernel leaves: the three results' arrays, from the blocks its run writes back.
-/
module

public import proofs.«01_k».proof.Proof.IdealRun

@[expose] public section

set_option maxRecDepth 16384

noncomputable section

namespace Cert.KernelIdeal.Body

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The first result's blocks are its array. -/
theorem arr6 (c : Dev nD) : (track m 0 c).arrAt 6 cfg0.N = outY (A₀ m c) (W₀ m c) (WS₀ m c) (B₀ m c) := by
  refine (track m 0 c).arrAt_eq_of_cover 6 _ (fun t _ => blkY_eq m c t) fun i => ?_
  have h0 : (i 0).val < 4096 := (i 0).isLt
  have ht : (i 0).val / 1024 < grid0.N := by show _ < 4; omega
  refine ⟨⟨(i 0).val / 1024, ht⟩, flush0_6 _, ?_⟩
  have e : (win0_6.rect ⟨(i 0).val / 1024, ht⟩).emb (ix2 (n0 := 1024) (n1 := 3072) ⟨(i 0).val % 1024, Nat.mod_lt _ (by decide)⟩ (i 1)) = i := funext fun a => Fin.ext (by
    match a with
    | ⟨0, _⟩ => refine (win0_6.rect_emb_val ⟨(i 0).val / 1024, ht⟩ _ 0).trans ?_; rw [(index6 _).1]; show (i 0).val / 1024 * 1024 + (i 0).val % 1024 = (i 0).val; omega
    | ⟨1, _⟩ => refine (win0_6.rect_emb_val ⟨(i 0).val / 1024, ht⟩ _ 1).trans ?_; rw [(index6 _).2]; show 0 * 3072 + (i 1).val = (i 1).val; omega)
  exact Finset.mem_map.2 ⟨_, Finset.mem_univ _, e⟩

/-- The second result's blocks are its array. -/
theorem arr7 (c : Dev nD) : (track m 0 c).arrAt 7 cfg0.N = outQ (A₀ m c) := by
  refine (track m 0 c).arrAt_eq_of_cover 7 _ (fun t _ => blkQ_eq m c t) fun i => ?_
  have h0 : (i 0).val < 8192 := (i 0).isLt
  have ht : (i 0).val / 2048 < grid0.N := by show _ < 4; omega
  refine ⟨⟨(i 0).val / 2048, ht⟩, flush0_7 _, ?_⟩
  have e : (win0_7.rect ⟨(i 0).val / 2048, ht⟩).emb (ix2 (n0 := 2048) (n1 := 1280) ⟨(i 0).val % 2048, Nat.mod_lt _ (by decide)⟩ (i 1)) = i := funext fun a => Fin.ext (by
    match a with
    | ⟨0, _⟩ => refine (win0_7.rect_emb_val ⟨(i 0).val / 2048, ht⟩ _ 0).trans ?_; rw [(index7 _).1]; show (i 0).val / 2048 * 2048 + (i 0).val % 2048 = (i 0).val; omega
    | ⟨1, _⟩ => refine (win0_7.rect_emb_val ⟨(i 0).val / 2048, ht⟩ _ 1).trans ?_; rw [(index7 _).2]; show 0 * 1280 + (i 1).val = (i 1).val; omega)
  exact Finset.mem_map.2 ⟨_, Finset.mem_univ _, e⟩

/-- The third result's blocks are its array. -/
theorem arr8 (c : Dev nD) : (track m 0 c).arrAt 8 cfg0.N = outS (A₀ m c) := by
  refine (track m 0 c).arrAt_eq_of_cover 8 _ (fun t _ => blkS_eq m c t) fun i => ?_
  have h1 : (i 1).val < 1 := (i 1).isLt
  obtain ⟨u, hu⟩ : ∃ u : Fin grid0.N, u.val = (i 0).val := ⟨⟨(i 0).val, (i 0).isLt⟩, rfl⟩
  refine ⟨u, flush0_8 _, ?_⟩
  have e : (win0_8.rect u).emb (ix3 (n0 := 1) (n1 := 1) (n2 := 2048) 0 0 (i 2)) = i := funext fun a => Fin.ext (by
    match a with
    | ⟨0, _⟩ => refine (win0_8.rect_emb_val u _ 0).trans ?_; rw [(index8 _).1]; show u.val * 1 + 0 = (i 0).val; omega
    | ⟨1, _⟩ => refine (win0_8.rect_emb_val u _ 1).trans ?_; rw [(index8 _).2.1]; show 0 * 1 + 0 = (i 1).val; omega
    | ⟨2, _⟩ => refine (win0_8.rect_emb_val u _ 2).trans ?_; rw [(index8 _).2.2]; show 0 * 2048 + (i 2).val = (i 2).val; omega)
  exact Finset.mem_map.2 ⟨_, Finset.mem_univ _, e⟩

/-- The first result in its own shape. -/
def resY (A : S8192x1280.Idx → F .bf16) (w : S3840x3072.Idx → F .fp8e4m3) (ws b : S1x3072.Idx → F .f32) : S2x2048x3072.Idx → F .bf16 :=
  shapeCast S2x2048x3072 (outY A w ws b) shapeCasts_S4096x3072_S2x2048x3072
/-- The second. -/
def resQ (A : S8192x1280.Idx → F .bf16) : S2x4096x1280.Idx → F .fp8e4m3 := shapeCast S2x4096x1280 (outQ A) shapeCasts_S8192x1280_S2x4096x1280
/-- The third. -/
def resS (A : S8192x1280.Idx → F .bf16) : S2x4096.Idx → F .f32 := shapeCast S2x4096 (outS A) shapeCasts_S4x1x2048_S2x4096

/-- Windows that share an array only read it: it ends as it was. -/
theorem shared_kept (c : Dev nD) (w w' : Fin cfg0.W) (hne : w ≠ w') (he : Pipeline.arrRef spec0 w = Pipeline.arrRef spec0 w') :
    (track m 0 c).arrAt w cfg0.N = V0 m c (Proc.devRef .tc (Pipeline.arrRef spec0 w)) := by
  have key : ∀ w w' : Fin 9, w ≠ w' → Pipeline.arrRef spec0 w = Pipeline.arrRef spec0 w' → w.val < 3 := by decide
  have h3 := key w w' hne he
  match w, h3 with
  | ⟨0, _⟩, _ => exact (track m 0 c).arrAt_in 0 rfl _
  | ⟨1, _⟩, _ => exact (track m 0 c).arrAt_in 1 rfl _
  | ⟨2, _⟩, _ => exact (track m 0 c).arrAt_in 2 rfl _
  | ⟨n + 3, _⟩, h => exact absurd h (by show ¬ n + 3 < 3; omega)

set_option backward.isDefEq.respectTransparency.types false in
theorem tail6 (c : Dev nD) : Pipeline.afterTail₀ cfgs (track m) 0 (V0 m) [hostOps1] c main_v4 = resY (A₀ m c) (W₀ m c) (WS₀ m c) (B₀ m c) := by
  unfold Pipeline.afterTail₀
  simp only [hostOps1, List.flatten_cons, List.flatten_nil, List.append_nil, StableHlo.after_cons, StableHlo.after_nil]
  rw [StableHlo.reshape_result_ne (h := by decide), StableHlo.reshape_result_ne (h := by decide), StableHlo.reshape_result]
  exact congrArg (fun f => shapeCast S2x2048x3072 f shapeCasts_S4096x3072_S2x2048x3072)
    ((Pipeline.withArrays_arr_shared spec0 c (V0 m c) _ (shared_kept m c) 6).trans (arr6 m c))

set_option backward.isDefEq.respectTransparency.types false in
theorem tail7 (c : Dev nD) : Pipeline.afterTail₀ cfgs (track m) 0 (V0 m) [hostOps1] c main_v5 = resQ (A₀ m c) := by
  unfold Pipeline.afterTail₀
  simp only [hostOps1, List.flatten_cons, List.flatten_nil, List.append_nil, StableHlo.after_cons, StableHlo.after_nil]
  rw [StableHlo.reshape_result_ne (h := by decide), StableHlo.reshape_result, StableHlo.reshape_result_ne (h := by decide)]
  exact congrArg (fun f => shapeCast S2x4096x1280 f shapeCasts_S8192x1280_S2x4096x1280)
    ((Pipeline.withArrays_arr_shared spec0 c (V0 m c) _ (shared_kept m c) 7).trans (arr7 m c))

set_option backward.isDefEq.respectTransparency.types false in
theorem tail8 (c : Dev nD) : Pipeline.afterTail₀ cfgs (track m) 0 (V0 m) [hostOps1] c main_v6 = resS (A₀ m c) := by
  unfold Pipeline.afterTail₀
  simp only [hostOps1, List.flatten_cons, List.flatten_nil, List.append_nil, StableHlo.after_cons, StableHlo.after_nil]
  rw [StableHlo.reshape_result, StableHlo.reshape_result_ne (h := by decide), StableHlo.reshape_result_ne (h := by decide)]
  exact congrArg (fun f => shapeCast S2x4096 f shapeCasts_S4x1x2048_S2x4096)
    ((Pipeline.withArrays_arr_shared spec0 c (V0 m c) _ (shared_kept m c) 8).trans (arr8 m c))

set_option backward.isDefEq.respectTransparency.types false in
/-- The run: the results are `resY`, `resQ` and `resS` of what the region finds, the arguments unchanged. -/
theorem run_values : θ_run defs (onTc (τ := τ) (main (F := F))) ⟨m, fun _ => 0, ρ⟩ (fun r => ∀ c : Dev nD,
      r.2.mem ((c.tc : Thread nD τ).loc main_v4) = resY (A₀ m c) (W₀ m c) (WS₀ m c) (B₀ m c)
      ∧ r.2.mem ((c.tc : Thread nD τ).loc main_v5) = resQ (A₀ m c)
      ∧ r.2.mem ((c.tc : Thread nD τ).loc main_v6) = resS (A₀ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_frame_around_track_shared cfgs (track m) (0 : Fin 1) launch₀0 defs₀ Variants.none m ρ main
    (fun c => track_obligation m c) (fun _ _ _ => rfl) (fun _ _ => rfl) (V0 m) [hostOps1] sfx_sub sfx_fresh sfx_keeps
    (hmain m Variants.none) (fun _ _ => rfl) (fun c => inv_of_owns m c) (fun c => owns_of_inv m c _)
    _ (fun r h c => ⟨((h.1 c).2 main_v4 (by decide)).trans (tail6 m c), ((h.1 c).2 main_v5 (by decide)).trans (tail7 m c),
      ((h.1 c).2 main_v6 (by decide)).trans (tail8 m c),
      ((h.1 c).2 main_arg0 (by decide)).trans (W_main_arg0 m (track m) c),
      ((h.1 c).1 3).trans (((track m 0 c).arrAt_in 3 rfl _).trans (V_main_arg1 m c)),
      ((h.1 c).2 main_arg2 (by decide)).trans (W_main_arg2 m (track m) c),
      ((h.1 c).2 main_arg3 (by decide)).trans (W_main_arg3 m (track m) c)⟩)

end Cert.KernelIdeal.Body

end
-- ==== Proof.KernelRows.lean ====
/-
  The kernel's three results over the extended reals in terms of the frames alone: which frame a code, a scale and an entry
  of the convolution's left operand come from, when every frame's largest magnitude is in range.
-/
module

public import proofs.«01_k».proof.Proof.RowKernel
public import proofs.«01_k».proof.Proof.IdealFinal

@[expose] public section

set_option maxRecDepth 16384

noncomputable section

namespace Cert.KernelIdeal.Body

open Cert.KernelIdeal Cert.KernelIdeal.Gen Cert.Num
open Idealize.ShloMosaic Idealize.ShloMosaic.TcCoe

/-- Frame `R` of all 8192. -/
def gRow (A : S8192x1280.Idx → EReal) (R : ℕ) : Fin 1280 → EReal := fun k => A (ix2 ⟨R % 8192, Nat.mod_lt _ (by decide)⟩ k)

variable (A : S8192x1280.Idx → EReal)

theorem rowOf_blk (j g R : ℕ) (r : Fin 128) (hg : g < 8) (e : 1024 * j + 128 * g + r.val = R) :
    rowOf (blk (F := Ideal) (tile (F := Ideal) A j) g) r = gRow A R := by
  have hr := r.isLt
  funext k
  exact congrArg (fun i => A (ix2 i k)) (Fin.ext (by
    show (1024 * j + (128 * g + r.val) % 1024) % 8192 = R % 8192
    omega))

theorem kScale_eq (f : Fin 1280 → EReal) (h : InRange (amax f)) : kScale f = Ideal.exp2 (refExp (amax f)) := scale_eq h

theorem kInv_eq (f : Fin 1280 → EReal) (h : InRange (amax f)) : kInv f = Ideal.exp2 (0 - refExp (amax f)) := inv_eq h

variable (hA : ∀ R, InRange (amax (gRow A R)))

include hA

theorem deq_gRow (j g R : ℕ) (r : Fin 128) (k : Fin 1280) (hg : g < 8) (e : 1024 * j + 128 * g + r.val = R) :
    deq (F := Ideal) (blk (F := Ideal) (tile (F := Ideal) A j) g) (ix2 r k) = deqVal (gRow A R) k := by
  rw [deq_apply, rowOf_blk A j g R r hg e, kScale_eq _ (hA R), kInv_eq _ (hA R)]
  rfl

theorem codes_gRow (j g R : ℕ) (r : Fin 128) (k : Fin 1280) (hg : g < 8) (e : 1024 * j + 128 * g + r.val = R) :
    codes (F := Ideal) (blk (F := Ideal) (tile (F := Ideal) A j) g) (ix2 r k)
      = codeOf (gRow A R k) (Ideal.exp2 (0 - refExp (amax (gRow A R)))) := by
  rw [codes_apply, rowOf_blk A j g R r hg e, kInv_eq _ (hA R)]

theorem scale_gRow (j g R : ℕ) (r : Fin 128) (hg : g < 8) (e : 1024 * j + 128 * g + r.val = R) :
    scaleRow (F := Ideal) (blk (F := Ideal) (tile (F := Ideal) A j) g) (ix2 0 r) = Ideal.exp2 (refExp (amax (gRow A R))) := by
  rw [scaleRow_apply, rowOf_blk A j g R r hg e, kScale_eq _ (hA R)]

/-- The second result's array. -/
theorem outQ_apply (R : Fin 8192) (k : Fin 1280) :
    outQ (F := Ideal) A (ix2 R k) = codeOf (gRow A R.val k) (Ideal.exp2 (0 - refExp (amax (gRow A R.val)))) :=
  codes_gRow A hA (R.val / 1024) (R.val % 1024 / 128) R.val ⟨R.val % 1024 % 128, Nat.mod_lt _ (by decide)⟩ k (by omega)
    (by show 1024 * (R.val / 1024) + 128 * (R.val % 1024 / 128) + R.val % 1024 % 128 = R.val; omega)

/-- The third result's array. -/
theorem outS_apply (q : Fin 4) (s : Fin 2048) :
    outS (F := Ideal) A (ix3 q 0 s) = Ideal.exp2 (refExp (amax (gRow A (2048 * q.val + s.val)))) :=
  scale_gRow A hA (2 * q.val + s.val / 1024) (s.val % 1024 / 128) (2048 * q.val + s.val) ⟨s.val % 1024 % 128, Nat.mod_lt _ (by decide)⟩ (by omega)
    (by show 1024 * (2 * q.val + s.val / 1024) + 128 * (s.val % 1024 / 128) + s.val % 1024 % 128 = 2048 * q.val + s.val; omega)

/-- The odd row before a tile. -/
theorem before_apply (j : ℕ) (k : Fin 1280) :
    before (F := Ideal) A j (ix2 0 k) = if j % 4 = 0 then (0 : EReal) else deqVal (gRow A (1024 * j - 1)) k := by
  unfold before
  split
  · show Ideal.ofBits .f32 0x00000000#32 = 0
    exact Idealize.ShloMosaic.Ideal.ofBits_zero .f32
  · rw [lastOdd_apply]
    exact deq_gRow A hA (j - 1) 7 (1024 * j - 1) ⟨127, by decide⟩ k (by decide) (by show 1024 * (j - 1) + 128 * 7 + 127 = 1024 * j - 1; omega)

/-- The odd row before a group. -/
theorem prevT_apply (j g : ℕ) (k : Fin 1280) (hg : g < 8) :
    prevT (F := Ideal) (before (F := Ideal) A j) (tile (F := Ideal) A j) g (ix2 0 k)
      = if g = 0 ∧ j % 4 = 0 then (0 : EReal) else deqVal (gRow A (1024 * j + 128 * g - 1)) k := by
  cases g with
  | zero =>
    refine (before_apply A hA j k).trans ?_
    by_cases h : j % 4 = 0
    · rw [if_pos h, if_pos ⟨rfl, h⟩]
    · rw [if_neg h, if_neg (fun e => h e.2)]; rfl
  | succ g =>
    rw [if_neg (fun e => by omega)]
    refine (lastOdd_apply _ k).trans ?_
    exact deq_gRow A hA j g (1024 * j + 128 * (g + 1) - 1) ⟨127, by decide⟩ k (by omega) (by show 1024 * j + 128 * g + 127 = _; omega)

/-- The left operand's entry. -/
theorem lhsA_apply (R : Fin 4096) (k : Fin 3840) :
    lhsA (F := Ideal) A (R.val / 512) (ix2 ⟨R.val % 512, Nat.mod_lt _ (by decide)⟩ k)
      = if k.val < 1280 ∧ R.val % 2048 = 0 then (0 : EReal)
        else deqVal (gRow A (2 * R.val + k.val / 1280 - 1)) ⟨k.val % 1280, Nat.mod_lt _ (by decide)⟩ := by
  have hR := R.isLt
  have hk := k.isLt
  have key : ∀ q : ℕ, q = k.val / 1280 →
      lhsB (F := Ideal) (prevT (F := Ideal) (before (F := Ideal) A (R.val / 512)) (tile (F := Ideal) A (R.val / 512)) (R.val % 512 / 64))
        (blk (F := Ideal) (tile (F := Ideal) A (R.val / 512)) (R.val % 512 / 64)) q
        (ix2 ⟨R.val % 512 % 64, Nat.mod_lt _ (by decide)⟩ ⟨k.val % 1280, Nat.mod_lt _ (by decide)⟩)
      = if k.val < 1280 ∧ R.val % 2048 = 0 then (0 : EReal)
        else deqVal (gRow A (2 * R.val + k.val / 1280 - 1)) ⟨k.val % 1280, Nat.mod_lt _ (by decide)⟩ := by
    intro q hq
    match q, hq with
    | 0, hq =>
      refine (shifted_apply _ _ _ _).trans ?_
      by_cases h0 : R.val % 512 % 64 = 0
      · rw [dif_pos h0]
        refine (prevT_apply A hA _ _ _ (by omega)).trans ?_
        by_cases h1 : R.val % 2048 = 0
        · rw [if_pos ⟨by omega, by omega⟩, if_pos ⟨by omega, h1⟩]
        · rw [if_neg (by omega), if_neg (by omega)]
          exact congrArg (fun n => deqVal (gRow A n) _) (by omega)
      · rw [dif_neg h0, if_neg (by omega)]
        exact deq_gRow A hA _ _ _ _ _ (by omega) (by
          show 1024 * (R.val / 512) + 128 * (R.val % 512 / 64) + (2 * (R.val % 512 % 64) - 1) = _; omega)
    | 1, hq =>
      rw [if_neg (by omega)]
      refine (evens_apply _ _ _).trans ?_
      exact deq_gRow A hA _ _ _ _ _ (by omega) (by
        show 1024 * (R.val / 512) + 128 * (R.val % 512 / 64) + 2 * (R.val % 512 % 64) = _; omega)
    | n + 2, hq =>
      rw [if_neg (by omega)]
      refine (odds_apply _ _ _).trans ?_
      exact deq_gRow A hA _ _ _ _ _ (by omega) (by
        show 1024 * (R.val / 512) + 128 * (R.val % 512 / 64) + (2 * (R.val % 512 % 64) + 1) = _; omega)
  exact key _ rfl

/-- The first result's array. -/
theorem outY_apply (w : S3840x3072.Idx → EReal) (ws b : S1x3072.Idx → EReal) (R : Fin 4096) (n : Fin 3072) :
    outY (F := Ideal) A w ws b (ix2 R n) = tailOf (∑ k : Fin 3840, (if k.val < 1280 ∧ R.val % 2048 = 0 then (0 : EReal)
        else deqVal (gRow A (2 * R.val + k.val / 1280 - 1)) ⟨k.val % 1280, Nat.mod_lt _ (by decide)⟩) * w (ix2 k n))
      (ws (ix2 0 n)) (b (ix2 0 n)) := by
  have hn := n.isLt
  have en : (⟨(512 * (n.val / 512) + n.val % 512) % 3072, Nat.mod_lt _ (by decide)⟩ : Fin 3072) = n := Fin.ext (by
    show (512 * (n.val / 512) + n.val % 512) % 3072 = n.val; omega)
  refine (block_apply _ _ _ _ _ _).trans ?_
  refine congr (congr (congrArg tailOf (Finset.sum_congr rfl fun k _ => ?_)) (congrArg (fun i => ws (ix2 0 i)) en)) (congrArg (fun i => b (ix2 0 i)) en)
  exact congrArg₂ (fun (p q : EReal) => p * q) (lhsA_apply A hA R k) (congrArg (fun i => w (ix2 k i)) en)

end Cert.KernelIdeal.Body
-- ==== Proof.RowRef.lean ====
/-
  The reference's three expressions over the extended reals, read at an index.
-/
module

public import proofs.«01_k».proof.Proof.Num
public import proofs.«01_k».proof.Proof.Gen.ReferenceIdeal.Skeleton
public import proofs.«01_k».proof.Proof.Gen.ReferenceIdeal.Frame

@[expose] public section

set_option maxRecDepth 16384

noncomputable section

namespace Cert.ReferenceIdeal.Result

open Cert.ReferenceIdeal Cert.ReferenceIdeal.Gen Cert.Num
open Idealize.ShloMosaic Idealize.ShloMosaic.TcCoe

/-- Frame `t` of batch `b`. -/
def frame (X : S2x4096x1280.Idx → EReal) (b : Fin 2) (t : Fin 4096) : Fin 1280 → EReal := fun k => X (ix3 b t k)

/-- The maximum along the last axis. -/
theorem max_apply (x : FVec Ideal S2x4096x1280 .f32) (b : Fin 2) (t : Fin 4096) :
    multiReduction (F := Ideal) .maximumf [2] S2x4096 x 0xFF800000#32 reduces_S2x4096x1280_S2x4096 (.inl rfl) rfl (ix2 b t)
      = (Finset.univ : Finset (Fin 1280)).fold max (Ideal.ofBits .f32 0xFF800000#32) fun k => x (ix3 b t k) := by
  simp only [pointwise]

/-- The exponents from the largest magnitudes. -/
def expOf (A : FVec Ideal S2x4096 .f32) : FVec Ideal S2x4096 .f32 :=
  select (cmpf .oeq A (broadcast S2x4096 (Scalar.ofBits .f32 0x00000000#32))) (broadcast S2x4096 (Scalar.ofBits .f32 0x00000000#32))
    (addf (floor (divf (log (mulf A (broadcast S2x4096 (Scalar.ofBits .f32 0x3B124925#32)))) (broadcast S2x4096 (Named.named κ "ln2" 0x3F317218#32))))
      (broadcast S2x4096 (Scalar.ofBits .f32 0x3F800000#32)))

theorem expOf_apply (A : FVec Ideal S2x4096 .f32) (j : S2x4096.Idx) : expOf A j = refExp (A j) := by
  unfold expOf
  simp only [pointwise]
  rfl

/-- The codes from the exponents. -/
def codesOf (x : FVec Ideal S2x4096x1280 .bf16) (E : FVec Ideal S2x4096 .f32) : FVec Ideal S2x4096x1280 .fp8e4m3 :=
  truncf .fp8e4m3 (minimumf (broadcast S2x4096x1280 (Scalar.ofBits .f32 0x43E00000#32))
    (maximumf (broadcast S2x4096x1280 (Scalar.ofBits .f32 0xC3E00000#32))
      (mulf (extf .f32 x bitsLt_bf16_f32) (broadcastTo S2x4096x1280 (shapeCast S2x4096x1
        (exp2 (subf (broadcast S2x4096 (Scalar.ofBits .f32 0x00000000#32)) E)) shapeCasts_S2x4096_S2x4096x1)
        broadcasts_S2x4096x1_S2x4096x1280)))) bitsLt_fp8e4m3_f32

theorem codesOf_apply (x : FVec Ideal S2x4096x1280 .bf16) (E : FVec Ideal S2x4096 .f32) (b : Fin 2) (t : Fin 4096) (k : Fin 1280) :
    codesOf x E (ix3 b t k) = codeOf (x (ix3 b t k)) (Ideal.exp2 (0 - E (ix2 b t))) := by
  unfold codesOf
  simp only [pointwise]
  rfl

theorem pay3_eq (X : Vec Ideal S2x4096x1280 .bf16) : k0_pay3 (F := Ideal) X = expOf (multiReduction (F := Ideal) .maximumf [2] S2x4096
    (absf (extf .f32 (X : FVec Ideal S2x4096x1280 .bf16) bitsLt_bf16_f32)) 0xFF800000#32 reduces_S2x4096x1280_S2x4096 (.inl rfl) rfl) := rfl

theorem pay3_apply (X : Vec Ideal S2x4096x1280 .bf16) (b : Fin 2) (t : Fin 4096) :
    k0_pay3 (F := Ideal) X (ix2 b t) = refExp (amax (frame X b t)) := by
  rw [pay3_eq, expOf_apply, max_apply, minus_inf]
  exact congrArg refExp rfl

theorem exp2_at (E : FVec Ideal S2x4096 .f32) (j : S2x4096.Idx) : exp2 E j = Ideal.exp2 (E j) := rfl

theorem pay4_eq (X : Vec Ideal S2x4096x1280 .bf16) : k0_pay4 (F := Ideal) X = exp2 (k0_pay3 (F := Ideal) X) := rfl

theorem pay4_apply (X : Vec Ideal S2x4096x1280 .bf16) (b : Fin 2) (t : Fin 4096) :
    k0_pay4 (F := Ideal) X (ix2 b t) = Ideal.exp2 (refExp (amax (frame X b t))) := by
  rw [pay4_eq, exp2_at, pay3_apply]

theorem pay5_eq (X : Vec Ideal S2x4096x1280 .bf16) : k0_pay5 (F := Ideal) X = codesOf X (k0_pay3 (F := Ideal) X) := rfl

theorem pay5_apply (X : Vec Ideal S2x4096x1280 .bf16) (b : Fin 2) (t : Fin 4096) (k : Fin 1280) :
    k0_pay5 (F := Ideal) X (ix3 b t k) = codeOf (frame X b t k) (Ideal.exp2 (0 - refExp (amax (frame X b t)))) := by
  rw [pay5_eq, codesOf_apply, pay3_apply]
  rfl

/-- The dequantised frames. -/
def deqOf (C : FVec Ideal S2x4096x1280 .fp8e4m3) (S : FVec Ideal S2x4096 .f32) : FVec Ideal S2x4096x1280 .bf16 :=
  mulf (extf .bf16 C bitsLt_fp8e4m3_bf16) (broadcastTo S2x4096x1280
    (shapeCast S2x4096x1 (truncf .bf16 S bitsLt_bf16_f32) shapeCasts_S2x4096_S2x4096x1) broadcasts_S2x4096x1_S2x4096x1280)

theorem deqOf_apply (C : FVec Ideal S2x4096x1280 .fp8e4m3) (S : FVec Ideal S2x4096 .f32) (b : Fin 2) (t : Fin 4096) (k : Fin 1280) :
    deqOf C S (ix3 b t k) = (C (ix3 b t k) : EReal) * S (ix2 b t) := by
  unfold deqOf
  simp only [pointwise]
  rfl

/-- Two frames side by side. -/
def pairsOf (D : FVec Ideal S2x4096x1280 .bf16) : FVec Ideal S2x2048x2560 .bf16 := shapeCast S2x2048x2560 D shapeCasts_S2x4096x1280_S2x2048x2560

/-- The odd frame before each pair. -/
def prevOf (P : FVec Ideal S2x2048x2560 .bf16) : FVec Ideal S2x2048x1280 .bf16 :=
  concatenate S2x2048x1280 1 [⟨S2x1x1280, (broadcast S2x1x1280 (Scalar.sitofp .bf16 0#32) : FVec Ideal S2x1x1280 .bf16)⟩,
    ⟨S2x2047x1280, extractStridedSlice S2x2047x1280 ![0, 0, 1280] P slices_S2x2048x2560_o0_0_1280_S2x2047x1280⟩] concatenates_S2x1x1280_S2x2047x1280_S2x2048x1280_d1

/-- The convolution's left operand. -/
def lhsOf (P : FVec Ideal S2x2048x2560 .bf16) (Q : FVec Ideal S2x2048x1280 .bf16) : FVec Ideal S2x2048x3840 .bf16 :=
  concatenate S2x2048x3840 2 [⟨S2x2048x1280, Q⟩, ⟨S2x2048x2560, P⟩] concatenates_S2x2048x1280_S2x2048x2560_S2x2048x3840_d2

theorem pairsOf_apply (D : FVec Ideal S2x4096x1280 .bf16) (b : Fin 2) (j : Fin 2048) (k : Fin 2560) :
    pairsOf D (ix3 b j k) = D (ix3 b ⟨2 * j.val + k.val / 1280, by omega⟩ ⟨k.val % 1280, by omega⟩) := by
  unfold pairsOf
  simp only [pointwise]
  exact congrArg (fun t => D (ix3 b t ⟨k.val % 1280, by omega⟩)) (Fin.ext (by show j.val * 2 + _ = 2 * j.val + _; omega))

theorem at_eq (P : FVec Ideal S2x2048x2560 .bf16) {a a' : Fin 2} {b b' : Fin 2048} {c c' : Fin 2560} (h : a = a') (h' : b = b') (h'' : c = c') :
    P (ix3 a b c) = P (ix3 a' b' c') := by rw [h, h', h'']

theorem prevOf_apply (P : FVec Ideal S2x2048x2560 .bf16) (b : Fin 2) (j : Fin 2048) (k : Fin 1280) :
    prevOf P (ix3 b j k) = if h : j.val = 0 then (0 : EReal) else P (ix3 b ⟨j.val - 1, by omega⟩ ⟨1280 + k.val, by omega⟩) := by
  unfold prevOf
  simp only [pointwise]
  by_cases h : j.val = 0
  · rw [dif_pos h, dif_pos (by omega)]
    show (((0 : ℤ) : ℝ) : EReal) = 0
    rw [Int.cast_zero, EReal.coe_zero]
  · rw [dif_neg h, dif_neg (by omega)]
    exact at_eq P (show (⟨0 + b.val, by omega⟩ : Fin 2) = b from Fin.ext (Nat.zero_add _))
      (show (⟨0 + (j.val - 1), by omega⟩ : Fin 2048) = ⟨j.val - 1, by omega⟩ from Fin.ext (Nat.zero_add _)) rfl

theorem lhsOf_apply (P : FVec Ideal S2x2048x2560 .bf16) (Q : FVec Ideal S2x2048x1280 .bf16) (b : Fin 2) (j : Fin 2048) (k : Fin 3840) :
    lhsOf P Q (ix3 b j k) = if h : k.val < 1280 then Q (ix3 b j ⟨k.val, h⟩) else P (ix3 b j ⟨k.val - 1280, by omega⟩) := by
  unfold lhsOf
  simp only [pointwise]
  rfl

/-- The accumulated product. -/
def accOf (L : FVec Ideal S2x2048x3840 .bf16) (W : FVec Ideal S3840x3072 .fp8e4m3) : FVec Ideal S2x2048x3072 .f32 :=
  matmul dot_S2x2048x3840_S3840x3072_S2x2048x3072_2_0_01_1_n_n none L (extf .bf16 W bitsLt_fp8e4m3_bf16) (constant S2x2048x3072 .f32 0x00000000#32)

theorem accOf_apply (L : FVec Ideal S2x2048x3840 .bf16) (W : FVec Ideal S3840x3072 .fp8e4m3) (b : Fin 2) (j : Fin 2048) (n : Fin 3072) :
    accOf L W (ix3 b j n) = ∑ k : Fin 3840, (L (ix3 b j k) : EReal) * W (ix2 k n) := by
  unfold accOf
  simp only [pointwise]
  exact zero_add _

theorem pay6_eq (X : Vec Ideal S2x4096x1280 .bf16) (W : Vec Ideal S3840x3072 .fp8e4m3) : k0_pay6 (F := Ideal) X W =
    accOf (lhsOf (pairsOf (deqOf (k0_pay5 (F := Ideal) X) (k0_pay4 (F := Ideal) X)))
      (prevOf (pairsOf (deqOf (k0_pay5 (F := Ideal) X) (k0_pay4 (F := Ideal) X))))) W := rfl

/-- Frame `R` of all 8192. -/
def frameAt (X : S2x4096x1280.Idx → EReal) (R : ℕ) : Fin 1280 → EReal :=
  frame X ⟨R % 8192 / 4096, by omega⟩ ⟨R % 4096, Nat.mod_lt _ (by decide)⟩

theorem deq_frame (X : Vec Ideal S2x4096x1280 .bf16) (b : Fin 2) (t : Fin 4096) (k : Fin 1280) (R : ℕ) (e : 4096 * b.val + t.val = R) :
    deqOf (k0_pay5 (F := Ideal) X) (k0_pay4 (F := Ideal) X) (ix3 b t k) = deqVal (frameAt X R) k := by
  have hb := b.isLt
  have ht := t.isLt
  have eb : (⟨R % 8192 / 4096, by omega⟩ : Fin 2) = b := Fin.ext (by show R % 8192 / 4096 = b.val; omega)
  have et : (⟨R % 4096, Nat.mod_lt _ (by decide)⟩ : Fin 4096) = t := Fin.ext (by show R % 4096 = t.val; omega)
  rw [deqOf_apply, pay5_apply, pay4_apply]
  unfold frameAt
  rw [eb, et]
  rfl

/-- The left operand's entry: of the frames `2 j - 1`, `2 j`, `2 j + 1` of the batch, zeros before it. -/
theorem lhs_apply (X : Vec Ideal S2x4096x1280 .bf16) (b : Fin 2) (j : Fin 2048) (k : Fin 3840) (r : ℕ) (e : 2048 * b.val + j.val = r) :
    lhsOf (pairsOf (deqOf (k0_pay5 (F := Ideal) X) (k0_pay4 (F := Ideal) X)))
      (prevOf (pairsOf (deqOf (k0_pay5 (F := Ideal) X) (k0_pay4 (F := Ideal) X)))) (ix3 b j k)
      = if k.val < 1280 ∧ r % 2048 = 0 then (0 : EReal)
        else deqVal (frameAt X (2 * r + k.val / 1280 - 1)) ⟨k.val % 1280, Nat.mod_lt _ (by decide)⟩ := by
  have hb := b.isLt
  have hj := j.isLt
  have hk := k.isLt
  rw [lhsOf_apply]
  by_cases h : k.val < 1280
  · rw [dif_pos h, prevOf_apply]
    by_cases h0 : j.val = 0
    · rw [dif_pos h0, if_pos ⟨h, by omega⟩]
    · rw [dif_neg h0, if_neg (fun e => h0 (by omega)), pairsOf_apply]
      refine (deq_frame X _ _ _ (2 * r + k.val / 1280 - 1) ?_).trans (congrArg (deqVal _) (Fin.ext ?_))
      · show 4096 * b.val + (2 * (j.val - 1) + (1280 + k.val) / 1280) = _
        omega
      · show (1280 + k.val) % 1280 = k.val % 1280
        omega
  · rw [dif_neg h, if_neg (fun e => h e.1), pairsOf_apply]
    refine (deq_frame X _ _ _ (2 * r + k.val / 1280 - 1) ?_).trans (congrArg (deqVal _) (Fin.ext ?_))
    · show 4096 * b.val + (2 * j.val + (k.val - 1280) / 1280) = _
      omega
    · show (k.val - 1280) % 1280 = k.val % 1280
      omega

theorem pay6_apply (X : Vec Ideal S2x4096x1280 .bf16) (W : Vec Ideal S3840x3072 .fp8e4m3) (b : Fin 2) (j : Fin 2048) (n : Fin 3072) (r : ℕ)
    (e : 2048 * b.val + j.val = r) :
    k0_pay6 (F := Ideal) X W (ix3 b j n) = ∑ k : Fin 3840, (if k.val < 1280 ∧ r % 2048 = 0 then (0 : EReal)
        else deqVal (frameAt X (2 * r + k.val / 1280 - 1)) ⟨k.val % 1280, Nat.mod_lt _ (by decide)⟩) * W (ix2 k n) := by
  rw [pay6_eq, accOf_apply]
  exact Finset.sum_congr rfl fun k _ => congrArg (fun v : EReal => v * W (ix2 k n)) (lhs_apply X b j k r e)

theorem pay1_apply (A : FVec Ideal S2x2048x3072 .f32) (ws b : Vec Ideal S1x3072 .f32) (i : Fin 2) (j : Fin 2048) (n : Fin 3072) :
    k0_pay1 (F := Ideal) A ws b (ix3 i j n) = tailOf (A (ix3 i j n)) (ws (ix2 0 n)) (b (ix2 0 n)) := by
  unfold k0_pay1
  simp only [pointwise]
  rfl

end Cert.ReferenceIdeal.Result
-- ==== Proof.RefValue.lean ====
/-
  What the reference leaves: its one call holds every array whole, so the three results are the body's three expressions of
  the arguments themselves.
-/
module

public import proofs.«01_k».proof.Proof.Gen.ReferenceIdeal.Frame
public import Idealize.ShloMosaic.Lib.Pipeline.Value

@[expose] public section

set_option maxRecDepth 16384

noncomputable section

namespace Cert.ReferenceIdeal.Result

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F] [Named F]
variable (m : (ℓ : Loc nD τ sig) → Buf (Elt F) ℓ) (ρ : Dev nD → PrngReg)

theorem zero2 : (![0, 0] : Fin 2 → ℕ) = fun _ => 0 := by decide
theorem zero3 : (![0, 0, 0] : Fin 3 → ℕ) = fun _ => 0 := by decide

theorem out4_eq (x0 : Vec F S2x4096x1280 .bf16) (x1 : Vec F S3840x3072 .fp8e4m3) (x2 x3 : Vec F S1x3072 .f32) :
    out0_4 x0 x1 x2 x3 = k0_pay1 (k0_pay6 x0 x1) x2 x3 := by
  unfold out0_4
  rw [View.canon_unit_zero zero3, View.ld_unit_zero zero3, View.ld_unit_zero zero2, View.ld_unit_zero zero2, View.ld_unit_zero zero2]

theorem out5_eq (x0 : Vec F S2x4096x1280 .bf16) (x1 : Vec F S3840x3072 .fp8e4m3) (x2 x3 : Vec F S1x3072 .f32) :
    out0_5 x0 x1 x2 x3 = k0_pay5 x0 := by
  unfold out0_5
  rw [View.canon_unit_zero zero3, View.ld_unit_zero zero3]

theorem out6_eq (x0 : Vec F S2x4096x1280 .bf16) (x1 : Vec F S3840x3072 .fp8e4m3) (x2 x3 : Vec F S1x3072 .f32) :
    out0_6 x0 x1 x2 x3 = k0_pay4 x0 := by
  unfold out0_6
  rw [View.canon_unit_zero zero2, View.ld_unit_zero zero3]

theorem index0 : ∀ t : Fin grid0.N, win0_0.index t 0 = 0 ∧ win0_0.index t 1 = 0 ∧ win0_0.index t 2 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 ∧ win0_4.index t 2 = 0 := by decide +kernel
theorem index5 : ∀ t : Fin grid0.N, win0_5.index t 0 = 0 ∧ win0_5.index t 1 = 0 ∧ win0_5.index t 2 = 0 := by decide +kernel
theorem index6 : ∀ t : Fin grid0.N, win0_6.index t 0 = 0 ∧ win0_6.index t 1 = 0 := by decide +kernel

theorem emb0 (t : Fin grid0.N) (y : S2x4096x1280.Idx) : (win0_0.rect t).emb y = y := funext fun a => Fin.ext (by
  match a with
  | ⟨0, _⟩ => refine (win0_0.rect_emb_val t y 0).trans ?_; rw [(index0 t).1]; show 0 * 2 + (y 0).val = (y 0).val; omega
  | ⟨1, _⟩ => refine (win0_0.rect_emb_val t y 1).trans ?_; rw [(index0 t).2.1]; show 0 * 4096 + (y 1).val = (y 1).val; omega
  | ⟨2, _⟩ => refine (win0_0.rect_emb_val t y 2).trans ?_; rw [(index0 t).2.2]; show 0 * 1280 + (y 2).val = (y 2).val; omega)
theorem emb1 (t : Fin grid0.N) (y : S3840x3072.Idx) : (win0_1.rect t).emb y = y := funext fun a => Fin.ext (by
  match a with
  | ⟨0, _⟩ => refine (win0_1.rect_emb_val t y 0).trans ?_; rw [(index1 t).1]; show 0 * 3840 + (y 0).val = (y 0).val; omega
  | ⟨1, _⟩ => refine (win0_1.rect_emb_val t y 1).trans ?_; rw [(index1 t).2]; show 0 * 3072 + (y 1).val = (y 1).val; omega)
theorem emb2 (t : Fin grid0.N) (y : S1x3072.Idx) : (win0_2.rect t).emb y = y := funext fun a => Fin.ext (by
  match a with
  | ⟨0, _⟩ => refine (win0_2.rect_emb_val t y 0).trans ?_; rw [(index2 t).1]; show 0 * 1 + (y 0).val = (y 0).val; omega
  | ⟨1, _⟩ => refine (win0_2.rect_emb_val t y 1).trans ?_; rw [(index2 t).2]; show 0 * 3072 + (y 1).val = (y 1).val; omega)
theorem emb3 (t : Fin grid0.N) (y : S1x3072.Idx) : (win0_3.rect t).emb y = y := funext fun a => Fin.ext (by
  match a with
  | ⟨0, _⟩ => refine (win0_3.rect_emb_val t y 0).trans ?_; rw [(index3 t).1]; show 0 * 1 + (y 0).val = (y 0).val; omega
  | ⟨1, _⟩ => refine (win0_3.rect_emb_val t y 1).trans ?_; rw [(index3 t).2]; show 0 * 3072 + (y 1).val = (y 1).val; omega)
theorem emb4 (t : Fin grid0.N) (y : S2x2048x3072.Idx) : (win0_4.rect t).emb y = y := funext fun a => Fin.ext (by
  match a with
  | ⟨0, _⟩ => refine (win0_4.rect_emb_val t y 0).trans ?_; rw [(index4 t).1]; show 0 * 2 + (y 0).val = (y 0).val; omega
  | ⟨1, _⟩ => refine (win0_4.rect_emb_val t y 1).trans ?_; rw [(index4 t).2.1]; show 0 * 2048 + (y 1).val = (y 1).val; omega
  | ⟨2, _⟩ => refine (win0_4.rect_emb_val t y 2).trans ?_; rw [(index4 t).2.2]; show 0 * 3072 + (y 2).val = (y 2).val; omega)
theorem emb5 (t : Fin grid0.N) (y : S2x4096x1280.Idx) : (win0_5.rect t).emb y = y := funext fun a => Fin.ext (by
  match a with
  | ⟨0, _⟩ => refine (win0_5.rect_emb_val t y 0).trans ?_; rw [(index5 t).1]; show 0 * 2 + (y 0).val = (y 0).val; omega
  | ⟨1, _⟩ => refine (win0_5.rect_emb_val t y 1).trans ?_; rw [(index5 t).2.1]; show 0 * 4096 + (y 1).val = (y 1).val; omega
  | ⟨2, _⟩ => refine (win0_5.rect_emb_val t y 2).trans ?_; rw [(index5 t).2.2]; show 0 * 1280 + (y 2).val = (y 2).val; omega)
theorem emb6 (t : Fin grid0.N) (y : S2x4096.Idx) : (win0_6.rect t).emb y = y := funext fun a => Fin.ext (by
  match a with
  | ⟨0, _⟩ => refine (win0_6.rect_emb_val t y 0).trans ?_; rw [(index6 t).1]; show 0 * 2 + (y 0).val = (y 0).val; omega
  | ⟨1, _⟩ => refine (win0_6.rect_emb_val t y 1).trans ?_; rw [(index6 t).2]; show 0 * 4096 + (y 1).val = (y 1).val; omega)

/-- The frames. -/
def X₀ (c : Dev nD) : S2x4096x1280.Idx → F .bf16 := m ((c.tc : Thread nD τ).loc main_arg0)
/-- The weights' codes. -/
def W₀ (c : Dev nD) : S3840x3072.Idx → F .fp8e4m3 := m ((c.tc : Thread nD τ).loc main_arg1)
/-- The weights' scales, as a row. -/
def WS₀ (c : Dev nD) : S1x3072.Idx → F .f32 := shapeCast S1x3072 (m ((c.tc : Thread nD τ).loc main_arg2) : FVec F S3072 .f32) shapeCasts_S3072_S1x3072
/-- The bias, as a row. -/
def B₀ (c : Dev nD) : S1x3072.Idx → F .f32 := shapeCast S1x3072 (m ((c.tc : Thread nD τ).loc main_arg3) : FVec F S3072 .f32) shapeCasts_S3072_S1x3072

set_option backward.isDefEq.respectTransparency.types false in
theorem V_ws (c : Dev nD) : (V m c main_v0 : S1x3072.Idx → F .f32) = WS₀ m c := by
  unfold V
  simp only [hostOps0, StableHlo.after_cons, StableHlo.after_nil]
  rw [StableHlo.reshape_result_ne (h := by decide), StableHlo.reshape_result]
  rfl

set_option backward.isDefEq.respectTransparency.types false in
theorem V_b (c : Dev nD) : (V m c main_v1 : S1x3072.Idx → F .f32) = B₀ m c := by
  unfold V
  simp only [hostOps0, StableHlo.after_cons, StableHlo.after_nil]
  rw [StableHlo.reshape_result, StableHlo.reshape_result_ne (h := by decide)]
  rfl

theorem iblk0 (c : Dev nD) (t : Fin cfg0.N) : (iblk m c 0 t : S2x4096x1280.Idx → F .bf16) = X₀ m c := by
  funext y
  exact (congrArg (V m c main_arg0) (emb0 t y)).trans (congrFun (V_main_arg0 m c) y)
theorem iblk1 (c : Dev nD) (t : Fin cfg0.N) : (iblk m c 1 t : S3840x3072.Idx → F .fp8e4m3) = W₀ m c := by
  funext y
  exact (congrArg (V m c main_arg1) (emb1 t y)).trans (congrFun (V_main_arg1 m c) y)
theorem iblk2 (c : Dev nD) (t : Fin cfg0.N) : (iblk m c 2 t : S1x3072.Idx → F .f32) = WS₀ m c := by
  funext y
  exact (congrArg (V m c main_v0) (emb2 t y)).trans (congrFun (V_ws m c) y)
theorem iblk3 (c : Dev nD) (t : Fin cfg0.N) : (iblk m c 3 t : S1x3072.Idx → F .f32) = B₀ m c := by
  funext y
  exact (congrArg (V m c main_v1) (emb3 t y)).trans (congrFun (V_b m c) y)

/-- What the one point writes back, per result. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]
theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

/-- The reference's first result. -/
def refY (c : Dev nD) : S2x2048x3072.Idx → F .bf16 := k0_pay1 (k0_pay6 (X₀ m c) (W₀ m c)) (WS₀ m c) (B₀ m c)

theorem arr4 (c : Dev nD) : (dats m 0 c).arrAt 4 cfg0.N = refY m c := by
  refine (dats m 0 c).arrAt_eq_of_cover 4 _ (fun t _ => ?_) fun i => ?_
  · rw [flushed4, out4_eq, iblk0, iblk1, iblk2, iblk3]
    funext y
    exact (congrArg (refY m c) (emb4 t y)).symm
  · have ht : 0 < grid0.N := by decide
    refine ⟨⟨0, ht⟩, flush0_4 _, ?_⟩
    have e : (win0_4.rect ⟨0, ht⟩).emb i = i := emb4 ⟨0, ht⟩ i
    exact Finset.mem_map.2 ⟨_, Finset.mem_univ _, e⟩

theorem arr5 (c : Dev nD) : (dats m 0 c).arrAt 5 cfg0.N = (k0_pay5 (X₀ m c) : S2x4096x1280.Idx → F .fp8e4m3) := by
  refine (dats m 0 c).arrAt_eq_of_cover 5 _ (fun t _ => ?_) fun i => ?_
  · rw [flushed5, out5_eq, iblk0]
    funext y
    exact (congrArg (k0_pay5 (X₀ m c)) (emb5 t y)).symm
  · have ht : 0 < grid0.N := by decide
    refine ⟨⟨0, ht⟩, flush0_5 _, ?_⟩
    have e : (win0_5.rect ⟨0, ht⟩).emb i = i := emb5 ⟨0, ht⟩ i
    exact Finset.mem_map.2 ⟨_, Finset.mem_univ _, e⟩

theorem arr6 (c : Dev nD) : (dats m 0 c).arrAt 6 cfg0.N = (k0_pay4 (X₀ m c) : S2x4096.Idx → F .f32) := by
  refine (dats m 0 c).arrAt_eq_of_cover 6 _ (fun t _ => ?_) fun i => ?_
  · rw [flushed6, out6_eq, iblk0]
    funext y
    exact (congrArg (k0_pay4 (X₀ m c)) (emb6 t y)).symm
  · have ht : 0 < grid0.N := by decide
    refine ⟨⟨0, ht⟩, flush0_6 _, ?_⟩
    have e : (win0_6.rect ⟨0, ht⟩).emb i = i := emb6 ⟨0, ht⟩ i
    exact Finset.mem_map.2 ⟨_, Finset.mem_univ _, e⟩

/-- After the run argument 0 is as launched: its window never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The reference's run: the three results as expressions of the arguments, the arguments unchanged. -/
theorem run_values : θ_run defs (onTc (τ := τ) (main (F := F))) ⟨m, fun _ => 0, ρ⟩ (fun r => ∀ c : Dev nD,
      r.2.mem ((c.tc : Thread nD τ).loc main_v2_0) = refY m c
      ∧ r.2.mem ((c.tc : Thread nD τ).loc main_v2_1) = (k0_pay5 (X₀ m c) : S2x4096x1280.Idx → F .fp8e4m3)
      ∧ r.2.mem ((c.tc : Thread nD τ).loc main_v2_2) = (k0_pay4 (X₀ m c) : S2x4096.Idx → F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 4).trans (arr4 m c), ((h c).1 5).trans (arr5 m c), ((h c).1 6).trans (arr6 m c),
    kept_main_arg0 m r h c, kept_main_arg1 m r h c, kept_main_arg2 m r h c, kept_main_arg3 m r h c⟩) (run_main m ρ)

end Cert.ReferenceIdeal.Result

end
-- ==== Proof.Equal.lean ====
/-
  The equation: over the extended reals, when every frame's largest magnitude is in range, the kernel's three results are
  the reference's.
-/
module

public import proofs.«01_k».proof.Proof.KernelRows
public import proofs.«01_k».proof.Proof.RowRef
public import proofs.«01_k».proof.Proof.RefValue

@[expose] public section

set_option maxRecDepth 16384

noncomputable section

namespace Cert.Equal

open Cert.KernelIdeal Cert.KernelIdeal.Gen Cert.Num
open Idealize.ShloMosaic Idealize.ShloMosaic.TcCoe
open Cert.KernelIdeal.Body (gRow outQ outS outY resQ resS resY outQ_apply outS_apply outY_apply)
open Cert.ReferenceIdeal.Result (frame frameAt pay4_apply pay5_apply pay6_apply pay1_apply)

/-- The frames of both batches in one array. -/
abbrev flat (X : FVec Ideal S2x4096x1280 .bf16) : FVec Ideal S8192x1280 .bf16 := shapeCast S8192x1280 X shapeCasts_S2x4096x1280_S8192x1280

theorem gRow_flat (X : FVec Ideal S2x4096x1280 .bf16) (R : ℕ) : gRow (flat X) R = frameAt X R := by
  funext k
  show shapeCast S8192x1280 X shapeCasts_S2x4096x1280_S8192x1280 (ix2 ⟨R % 8192, Nat.mod_lt _ (by decide)⟩ k) = _
  simp only [pointwise]
  exact congrArg (fun t : Fin 4096 => X (ix3 ⟨R % 8192 / 4096, by omega⟩ t k)) (Fin.ext (by show R % 8192 % 4096 = R % 4096; omega))

theorem frameAt_of (X : FVec Ideal S2x4096x1280 .bf16) (b : Fin 2) (t : Fin 4096) (R : ℕ) (e : 4096 * b.val + t.val = R) :
    frameAt X R = frame X b t := by
  have hb := b.isLt
  have ht := t.isLt
  exact congrArg₂ (frame X) (Fin.ext (by show R % 8192 / 4096 = b.val; omega)) (Fin.ext (by show R % 4096 = t.val; omega))

variable (X : FVec Ideal S2x4096x1280 .bf16) (hX : ∀ b t, InRange (amax (frame X b t)))

include hX

theorem inRange_flat (R : ℕ) : InRange (amax (gRow (flat X) R)) := by
  rw [gRow_flat]
  exact hX _ _

/-- The codes. -/
theorem codes_eq : resQ (F := Ideal) (flat X) = Cert.ReferenceIdeal.Gen.k0_pay5 (F := Ideal) X := by
  funext i
  obtain ⟨b, t, k, rfl⟩ : ∃ b t k, i = ix3 b t k := ⟨i 0, i 1, i 2, (ix3_eta i).symm⟩
  have hb := b.isLt
  have ht := t.isLt
  have e : resQ (F := Ideal) (flat X) (ix3 b t k) = outQ (F := Ideal) (flat X) (ix2 ⟨4096 * b.val + t.val, by omega⟩ k) := by
    unfold resQ
    generalize outQ (F := Ideal) (flat X) = Y
    simp only [pointwise]
    exact congrArg (fun r : Fin 8192 => Y (ix2 r k)) (Fin.ext (by show b.val * 4096 + t.val = 4096 * b.val + t.val; omega))
  rw [e, outQ_apply _ (inRange_flat X hX), gRow_flat, frameAt_of X b t _ rfl, pay5_apply]

/-- The scales. -/
theorem scales_eq : resS (F := Ideal) (flat X) = Cert.ReferenceIdeal.Gen.k0_pay4 (F := Ideal) X := by
  funext i
  obtain ⟨b, t, rfl⟩ : ∃ b t, i = ix2 b t := ⟨i 0, i 1, (ix2_eta i).symm⟩
  have hb := b.isLt
  have ht := t.isLt
  have e : resS (F := Ideal) (flat X) (ix2 b t) = outS (F := Ideal) (flat X) (ix3 ⟨2 * b.val + t.val / 2048, by omega⟩ 0 ⟨t.val % 2048, Nat.mod_lt _ (by decide)⟩) := by
    unfold resS
    generalize outS (F := Ideal) (flat X) = Y
    simp only [pointwise]
    exact congrArg (fun q : Fin 4 => Y (ix3 q 0 ⟨t.val % 2048, Nat.mod_lt _ (by decide)⟩))
      (Fin.ext (by show b.val * 2 + t.val / 2048 = 2 * b.val + t.val / 2048; omega))
  rw [e, outS_apply _ (inRange_flat X hX), gRow_flat, frameAt_of X b t _ (by show 4096 * b.val + t.val = 2048 * (2 * b.val + t.val / 2048) + t.val % 2048; omega),
    pay4_apply]

/-- The convolution's result. -/
theorem y_eq (w : FVec Ideal S3840x3072 .fp8e4m3) (ws u : FVec Ideal S1x3072 .f32) :
    resY (F := Ideal) (flat X) w ws u = Cert.ReferenceIdeal.Gen.k0_pay1 (F := Ideal) (Cert.ReferenceIdeal.Gen.k0_pay6 (F := Ideal) X w) ws u := by
  funext i
  obtain ⟨b, j, n, rfl⟩ : ∃ b j n, i = ix3 b j n := ⟨i 0, i 1, i 2, (ix3_eta i).symm⟩
  have hb := b.isLt
  have hj := j.isLt
  have e : resY (F := Ideal) (flat X) w ws u (ix3 b j n) = outY (F := Ideal) (flat X) w ws u (ix2 ⟨2048 * b.val + j.val, by omega⟩ n) := by
    unfold resY
    generalize outY (F := Ideal) (flat X) w ws u = Y
    simp only [pointwise]
    exact congrArg (fun r : Fin 4096 => Y (ix2 r n)) (Fin.ext (by show b.val * 2048 + j.val = 2048 * b.val + j.val; omega))
  rw [e, outY_apply _ (inRange_flat X hX), pay1_apply, pay6_apply X w b j n _ rfl]
  refine congrArg (fun a => tailOf a _ _) (Finset.sum_congr rfl fun k _ => ?_)
  rw [gRow_flat]

end Cert.Equal

namespace Cert.KernelIdeal.Body

open Cert.KernelIdeal Cert.KernelIdeal.Gen
open Idealize.ShloMosaic Idealize.ShloMosaic.TcCoe

variable (m : (ℓ : Loc nD τ sig) → Buf (Elt Ideal) ℓ) (c : Dev nD)

set_option backward.isDefEq.respectTransparency.types false in
/-- The call finds the frames of both batches in one array. -/
theorem A₀_eq : A₀ m c = Cert.Equal.flat (m ((c.tc : Thread nD τ).loc main_arg0)) := by
  unfold A₀ V V0
  simp only [hostOps0, List.flatten_cons, List.flatten_nil, List.append_nil, StableHlo.after_cons, StableHlo.after_nil]
  rw [StableHlo.reshape_result_ne (h := by decide), StableHlo.reshape_result_ne (h := by decide), StableHlo.reshape_result]
  rfl

theorem W₀_eq : W₀ m c = m ((c.tc : Thread nD τ).loc main_arg1) := V_main_arg1 m c

set_option backward.isDefEq.respectTransparency.types false in
/-- The call finds the scales of the weights as a row. -/
theorem WS₀_eq : WS₀ m c = shapeCast S1x3072 (m ((c.tc : Thread nD τ).loc main_arg2) : FVec Ideal S3072 .f32) shapeCasts_S3072_S1x3072 := by
  unfold WS₀ V V0
  simp only [hostOps0, List.flatten_cons, List.flatten_nil, List.append_nil, StableHlo.after_cons, StableHlo.after_nil]
  rw [StableHlo.reshape_result_ne (h := by decide), StableHlo.reshape_result, StableHlo.reshape_result_ne (h := by decide)]
  rfl

set_option backward.isDefEq.respectTransparency.types false in
/-- The call finds the bias as a row. -/
theorem B₀_eq : B₀ m c = shapeCast S1x3072 (m ((c.tc : Thread nD τ).loc main_arg3) : FVec Ideal S3072 .f32) shapeCasts_S3072_S1x3072 := by
  unfold B₀ V V0
  simp only [hostOps0, List.flatten_cons, List.flatten_nil, List.append_nil, StableHlo.after_cons, StableHlo.after_nil]
  rw [StableHlo.reshape_result, StableHlo.reshape_result_ne (h := by decide), StableHlo.reshape_result_ne (h := by decide)]
  rfl

end Cert.KernelIdeal.Body

end
-- ==== Proof.InRange.lean ====
/-
  What the precondition says over the extended reals: every frame's largest magnitude is zero or lies where its scale and
  the scale's inverse are normal numbers.
-/
module

public import proofs.«01_k».proof.Proof.RowRef
public import proofs.«01_k».proof.Proof.Gen.Pre_in_range

@[expose] public section

set_option maxRecDepth 16384

noncomputable section

namespace Cert.Pre_in_range.Result

open Cert.Pre_in_range Cert.Pre_in_range.Facts Cert.Num
open Idealize.ShloMosaic Idealize.ShloMosaic.TcCoe

attribute [local instance] Cert.Pre_in_range.Gen.facts

/-- The condition of the largest magnitudes. -/
def condOf (A : FVec Ideal S2x4096 .f32) : IVec S2x4096 1 :=
  andi (cmpf .ole A (broadcastInDim S2x4096 ![] bcast_S_S2x4096 (constant S_ .f32 0x7F7F0000#32)))
    (ori (cmpf .oeq A (broadcastInDim S2x4096 ![] bcast_S_S2x4096 (constant S_ .f32 0x00000000#32)))
      (cmpf .oge (mulf A (broadcastInDim S2x4096 ![] bcast_S_S2x4096 (constant S_ .f32 0x3B124925#32)))
        (broadcastInDim S2x4096 ![] bcast_S_S2x4096 (constant S_ .f32 0x00800000#32))))

theorem bits_and_or : ∀ p q r : Bool, IntOp.andi (BitVec.ofBool p) (IntOp.ori (BitVec.ofBool q) (BitVec.ofBool r)) = 1#1 →
    p = true ∧ (q = true ∨ r = true) := by decide

theorem condOf_apply (A : FVec Ideal S2x4096 .f32) (b : Fin 2) (t : Fin 4096) (h : condOf A (ix2 b t) = 1#1) (h0 : (0 : EReal) ≤ A (ix2 b t)) :
    InRange (A (ix2 b t)) := by
  unfold condOf at h
  simp only [pointwise] at h
  have hb := bits_and_or _ _ _ h
  exact ⟨h0, of_decide_eq_true hb.1, hb.2.imp of_decide_eq_true of_decide_eq_true⟩

theorem reduce_apply (x : FVec Ideal S2x4096x1280 .f32) (b : Fin 2) (t : Fin 4096) :
    Host.reduce FloatOps.maximumf x (constant S_ .f32 0xFF800000#32) reducesTo_S2x4096x1280_S2x4096_d2 h_S_ (ix2 b t)
      = (Finset.univ : Finset (Fin 1280)).fold max (Ideal.ofBits .f32 0xFF800000#32) fun k => x (ix3 b t k) := by
  simp only [pointwise]

theorem fn_eq (X : FVec Ideal S2x4096x1280 .bf16) (W : FVec Ideal S3840x3072 .fp8e4m3) (s u : FVec Ideal S3072 .f32) :
    fn (F := Ideal) X W s u = condOf (Host.reduce FloatOps.maximumf (Host.absf (extf .f32 X bitsLt_bf16_f32))
      (constant S_ .f32 0xFF800000#32) reducesTo_S2x4096x1280_S2x4096_d2 h_S_) := rfl

theorem inRange (X : FVec Ideal S2x4096x1280 .bf16) (W : FVec Ideal S3840x3072 .fp8e4m3) (s u : FVec Ideal S3072 .f32)
    (h : fn (F := Ideal) X W s u = fun _ => 1#1) (b : Fin 2) (t : Fin 4096) : InRange (amax (Cert.ReferenceIdeal.Result.frame X b t)) := by
  have e : Host.reduce FloatOps.maximumf (Host.absf (extf .f32 X bitsLt_bf16_f32) : FVec Ideal S2x4096x1280 .f32)
      (constant S_ .f32 0xFF800000#32) reducesTo_S2x4096x1280_S2x4096_d2 h_S_ (ix2 b t) = amax (Cert.ReferenceIdeal.Result.frame X b t) := by
    rw [reduce_apply, minus_inf]
    rfl
  have h' := congrFun h (ix2 b t)
  rw [fn_eq] at h'
  have h'' := condOf_apply _ b t h' (by rw [e]; exact amax_nonneg _)
  rw [e] at h''
  exact h''

end Cert.Pre_in_range.Result
-- ==== Proof.lean ====
/- The certificate: the frames of the three programs, the rewrites of the idealized kernel, and its equality with the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.KernelFrame
public import proofs.«01_k».proof.Proof.KernelIdealFrame
public import proofs.«01_k».proof.Proof.Equal
public import proofs.«01_k».proof.Proof.InRange
public import Idealize.ShloMosaic.Lib.Bf16Pair
public import Idealize.ShloMosaic.Adequacy
public import Idealize.ShloMosaic.Init

@[expose] public section

noncomputable section

namespace Cert.Proof

open Idealize.ShloMosaic Idealize.SL.Sem

/-- Launched on the same arguments in range, the kernel and the reference leave the same three results. -/
theorem algebraic : @Cert.algebraic_KernelIdeal_ReferenceIdeal_pre_in_range Cert.KernelIdeal.Gen.facts Cert.ReferenceIdeal.Gen.facts
    Cert.Pre_in_range.Gen.facts := by
  intro m g m' g' hpre hargs
  have hX : ∀ (c : Dev Cert.KernelIdeal.nD) b t, Cert.Num.InRange (Cert.Num.amax (Cert.ReferenceIdeal.Result.frame
      (m ((c.tc : Thread Cert.KernelIdeal.nD Cert.KernelIdeal.τ).loc Cert.KernelIdeal.main_arg0)) b t)) := fun c =>
    Cert.Pre_in_range.Result.inRange _ _ _ _ (hpre c)
  refine ⟨_, _, _, Cert.KernelIdeal.Body.run_values m g, (θ_run _ _ _).mono (fun r h c => ?_) (Cert.ReferenceIdeal.Result.run_values m' g')⟩
  obtain ⟨h0, h1, h2, h3⟩ := hargs c
  obtain ⟨r0, r1, r2, rest⟩ := h c
  refine ⟨r0.trans ?_, r1.trans ?_, r2.trans ?_, rest⟩
  · rw [Cert.KernelIdeal.Body.A₀_eq, Cert.KernelIdeal.Body.W₀_eq, Cert.KernelIdeal.Body.WS₀_eq, Cert.KernelIdeal.Body.B₀_eq,
      Cert.Equal.y_eq _ (hX c)]
    unfold Cert.ReferenceIdeal.Result.refY Cert.ReferenceIdeal.Result.X₀ Cert.ReferenceIdeal.Result.W₀ Cert.ReferenceIdeal.Result.WS₀
      Cert.ReferenceIdeal.Result.B₀
    rw [h0, h1, h2, h3]
  · rw [Cert.KernelIdeal.Body.A₀_eq, Cert.Equal.codes_eq _ (hX c)]
    unfold Cert.ReferenceIdeal.Result.X₀
    rw [h0]
  · rw [Cert.KernelIdeal.Body.A₀_eq, Cert.Equal.scales_eq _ (hX c)]
    unfold Cert.ReferenceIdeal.Result.X₀
    rw [h0]

theorem claim : Cert.Claim := ⟨Cert.Kernel.Gen.facts, Cert.KernelIdeal.Gen.facts, Cert.ReferenceIdeal.Gen.facts, Cert.Pre_in_range.Gen.facts,
  fun m g _ => Cert.Kernel.Run.run_main (F := Bits) m g,
  fun m g _ => Cert.KernelIdeal.Run.run_main (F := Ideal) m g,
  fun m g _ => Cert.KernelIdeal.Run.run_main (F := Ideal) m g,
  fun m g _ => Cert.ReferenceIdeal.Gen.frame (F := Ideal) m g,
  fun m g _ => Cert.ReferenceIdeal.Gen.frame (F := Ideal) m g,
  IdealRules.bf16_pair.statement _ _ (by decide),
  algebraic⟩

end Cert.Proof

end
